-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x2048 : Shape := ⟨3, ![4, 4096, 2048]⟩
abbrev S64x2048 : Shape := ⟨2, ![64, 2048]⟩
abbrev S_ : Shape := ⟨0, ![]⟩

class Facts : Prop where
  bcast_S_S4x4096x2048 : S_.BroadcastsInDim S4x4096x2048 (![] : Fin 0 → Fin S4x4096x2048.rank)
  bcast_S_S64x2048 : S_.BroadcastsInDim S64x2048 (![] : Fin 0 → Fin S64x2048.rank)

variable [Facts]

def fn {F : FTy → Type} [FloatOps F] (main_arg0 : FVec F S4x4096x2048 .f32) (main_arg1 : FVec F S64x2048 .f32) : IVec S4x4096x2048 1 × IVec S64x2048 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_v3 : FVec F S64x2048 .f32 := Host.absf main_arg1
  let main_cst_0 : FVec F S_ .f32 := constant S_ .f32 0x7F800000#32
  let main_v4 : FVec F S64x2048 .f32 := broadcastInDim S64x2048 ![] bcast_S_S64x2048 main_cst_0
  let main_v5 : IVec S64x2048 1 := cmpf .olt main_v3 main_v4
  (main_v2, main_v5)
-- ==== Kernel.lean ====
abbrev S4x4096x2048 : Shape := ⟨3, ![4, 4096, 2048]⟩
abbrev S64x2048 : Shape := ⟨2, ![64, 2048]⟩
abbrev S16384x2048 : Shape := ⟨2, ![16384, 2048]⟩
abbrev S1x32768 : Shape := ⟨2, ![1, 32768]⟩
abbrev S64x1 : Shape := ⟨2, ![64, 1]⟩
abbrev S1x1 : Shape := ⟨2, ![1, 1]⟩
abbrev S2048x2048 : Shape := ⟨2, ![2048, 2048]⟩
abbrev S1x4096 : Shape := ⟨2, ![1, 4096]⟩
abbrev S2048 : Shape := ⟨1, ![2048]⟩
abbrev S1x2048 : Shape := ⟨2, ![1, 2048]⟩
abbrev S1x2048x1 : Shape := ⟨3, ![1, 2048, 1]⟩
abbrev S1x2048x2 : Shape := ⟨3, ![1, 2048, 2]⟩
abbrev S64 : Shape := ⟨1, ![64]⟩
abbrev S1x64x1 : Shape := ⟨3, ![1, 64, 1]⟩
abbrev S1 : Shape := ⟨1, ![1]⟩
abbrev S1x1x1 : Shape := ⟨3, ![1, 1, 1]⟩
abbrev S16384x2 : Shape := ⟨2, ![16384, 2]⟩
abbrev S_ : Shape := ⟨0, ![]⟩

abbrev nBuf : Space → Nat
  | .hbm => 11
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S16384x2048, .f32⟩
  | .hbm, ⟨3, _⟩ => ⟨S1x32768, .i32⟩
  | .hbm, ⟨4, _⟩ => ⟨S1x32768, .f32⟩
  | .hbm, ⟨5, _⟩ => ⟨S64x1, .f32⟩
  | .hbm, ⟨6, _⟩ => ⟨S64x1, .f32⟩
  | .hbm, ⟨7, _⟩ => ⟨S1x1, .f32⟩
  | .hbm, ⟨8, _⟩ => ⟨S16384x2, .i32⟩
  | .hbm, ⟨9, _⟩ => ⟨S16384x2, .f32⟩
  | .hbm, ⟨10, _⟩ => ⟨S_, .f32⟩
  | .local _ .vmem, ⟨0, _⟩ => ⟨S2048x2048, .f32⟩
  | .local _ .vmem, ⟨1, _⟩ => ⟨S2048x2048, .f32⟩
  | .local _ .vmem, ⟨2, _⟩ => ⟨S64x2048, .f32⟩
  | .local _ .vmem, ⟨3, _⟩ => ⟨S1x4096, .i32⟩
  | .local _ .vmem, ⟨4, _⟩ => ⟨S1x4096, .i32⟩
  | .local _ .vmem, ⟨5, _⟩ => ⟨S1x4096, .f32⟩
  | .local _ .vmem, ⟨6, _⟩ => ⟨S1x4096, .f32⟩
  | .local _ .vmem, ⟨7, _⟩ => ⟨S64x1, .f32⟩
  | .local _ .vmem, ⟨8, _⟩ => ⟨S64x1, .f32⟩
  | .local _ .vmem, ⟨9, _⟩ => ⟨S1x1, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_19 : BitVec 32 := 0#32
  let v76 : BitVec 1 := Scalar.cmpi .eq arg0 c0_i32_19
  let v77 : BitVec 32 := Scalar.extui v76
  let c0_i32_20 : BitVec 32 := 0#32
  let v78 : BitVec 1 := Scalar.cmpi .ne v77 c0_i32_20
  v78

def k0_cond2 (i : grid0.Coords) : BitVec 1 :=
  let arg0 : BitVec 32 := BitVec.ofNat 32 (i 0).val
  let c0_i32_21 : BitVec 32 := 0#32
  let v79 : BitVec 1 := Scalar.cmpi .ne arg0 c0_i32_21
  let v80 : BitVec 32 := Scalar.extui v79
  let c0_i32_22 : BitVec 32 := 0#32
  let v81 : BitVec 1 := Scalar.cmpi .ne v80 c0_i32_22
  v81

def k0_cond3 (i : grid0.Coords) : BitVec 1 :=
  let arg0 : BitVec 32 := BitVec.ofNat 32 (i 0).val
  let c7_i32 : BitVec 32 := 7#32
  let v82 : BitVec 1 := Scalar.cmpi .eq arg0 c7_i32
  let v83 : BitVec 32 := Scalar.extui v82
  let c0_i32_23 : BitVec 32 := 0#32
  let v84 : BitVec 1 := Scalar.cmpi .ne v83 c0_i32_23
  v84

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4x4096x2048 : Shape := ⟨3, ![4, 4096, 2048]⟩
abbrev S64x2048 : Shape := ⟨2, ![64, 2048]⟩
abbrev S16384x2048 : Shape := ⟨2, ![16384, 2048]⟩
abbrev S2048x64 : Shape := ⟨2, ![2048, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x2 : Shape := ⟨2, ![16384, 2]⟩
abbrev S16384x2x1 : Shape := ⟨3, ![16384, 2, 1]⟩
abbrev S1x1x64 : Shape := ⟨3, ![1, 1, 64]⟩
abbrev S16384x2x64 : Shape := ⟨3, ![16384, 2, 64]⟩
abbrev S64 : Shape := ⟨1, ![64]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S16384x2048, .f32⟩
  | .hbm, ⟨3, _⟩ => ⟨S2048x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x64, .f32⟩
  | .hbm, ⟨18, _⟩ => ⟨S16384x64, .f32⟩
  | .hbm, ⟨19, _⟩ => ⟨S16384x2, .f32⟩
  | .hbm, ⟨20, _⟩ => ⟨S16384x2, .i32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x2, .f32⟩
  | .hbm, ⟨28, _⟩ => ⟨S16384x2, .f32⟩
  | .hbm, ⟨29, _⟩ => ⟨S16384x2x1, .i32⟩
  | .hbm, ⟨30, _⟩ => ⟨S1x1x64, .i32⟩
  | .hbm, ⟨31, _⟩ => ⟨S16384x2x64, .i32⟩
  | .hbm, ⟨32, _⟩ => ⟨S16384x2x64, .i32⟩
  | .hbm, ⟨33, _⟩ => ⟨S16384x2x64, .i1⟩
  | .hbm, ⟨34, _⟩ => ⟨S16384x2x64, .f32⟩
  | .hbm, ⟨35, _⟩ => ⟨S_, .f32⟩
  | .hbm, ⟨36, _⟩ => ⟨S16384x64, .f32⟩
  | .hbm, ⟨37, _⟩ => ⟨S_, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_cst_10 : Ref sig .tc := ⟨.hbm, 50, rfl⟩
abbrev main_v30 : Ref sig .tc := ⟨.hbm, 51, rfl⟩

abbrev nD : Nat := 1
abbrev τ : Topo := Topo.v7x

variable {F : FTy → Type} [FloatOps F]
-- ==== Proof.Frames.lean ====
/-
  The three programs run, stop, and leave their arguments as they were.

  For the kernel, read bit for bit and read over the extended reals, the generated frame says so. The reference is a
  straight line of operations on whole arrays, which declares no semaphore: its run leaves the arguments unchanged, and
  there is no counter to differ from zero.
-/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Proof

open Idealize.ShloMosaic Idealize.SL.Sem

/-- The kernel read bit for bit runs to the end, its arguments unchanged, every counter at zero. -/
theorem frame_kernel : Cert.quiescent_Kernel (hKernel := Cert.Kernel.Gen.facts) :=
  fun m g _ => Cert.Kernel.Gen.frame m g

/-- The kernel read over the extended reals does too. -/
theorem frame_ideal : Cert.quiescent_KernelIdeal (hKernelIdeal := Cert.KernelIdeal.Gen.facts) :=
  fun m g _ => Cert.KernelIdeal.Gen.frame m g

/-- The reference runs to the end from any memory, its arguments unchanged, every counter at zero. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2.2.2, sem_eq_zero_of_no_sems (by decide) r.2⟩)
    (Cert.ReferenceIdeal.Value.run (F := Ideal) m g)

/-- The reference's claim, in the form the certificate asks for. -/
theorem frame_reference : Cert.quiescent_ReferenceIdeal (hReferenceIdeal := Cert.ReferenceIdeal.Gen.facts) :=
  fun m g _ => run_reference m g

end Cert.Proof

end
-- ==== Proof.TopTwo.lean ====
/-
  The first two of a stable descending sort.

  A position stands before another when its key is greater, and among equal keys when it comes earlier. A stable sort
  that compares the keys alone, started from the positions in their own order, leaves them in that order; so its first
  two entries are the position that stands before every other, and the one that stands before every other but that.
-/
module

public import Idealize.ShloMosaic.Lib.SortPrefix
public import Mathlib.Order.Defs.LinearOrder

@[expose] public section

namespace Cert.Proof

open Idealize.ShloMosaic

variable {n : Nat} {α : Type} [LinearOrder α]

/-- `a` stands before `b`: its key is greater, or the keys are equal and `a` is the earlier position. -/
def Ahead (key : Fin n → α) (a b : Fin n) : Prop := key b < key a ∨ (key a = key b ∧ a < b)

/-- The comparison of keys alone. -/
abbrev keyGt (key : Fin n → α) (a b : Fin n) : Bool := decide (key b < key a)

/-- The comparison of keys, then positions. -/
abbrev lexGt (key : Fin n → α) (a b : Fin n) : Bool :=
  (fun x y : α => decide (y < x)) (key a) (key b) || (decide (key a = key b) && decide (a < b))

theorem lexGt_iff (key : Fin n → α) (a b : Fin n) : lexGt key a b = true ↔ Ahead key a b := by
  simp [lexGt, Ahead]

theorem lexGt_strict (key : Fin n → α) : StrictTotalBefore (lexGt key) :=
  StrictTotalBefore.of_key_then_position (fun x y : α => decide (y < x)) key (fun a => by simp)
    (fun a b c hab hbc => by
      simp only [decide_eq_true_eq] at *
      exact lt_trans hbc hab)
    (fun a b => by
      simp only [decide_eq_true_eq]
      rcases lt_trichotomy a b with h | h | h
      · exact Or.inr (Or.inr h)
      · exact Or.inr (Or.inl h)
      · exact Or.inl h)

/-- If `a` stands before `b` then `b` does not stand before `a`. -/
theorem not_lexGt_of_ahead (key : Fin n → α) {a b : Fin n} (h : Ahead key a b) : lexGt key b a = false :=
  (lexGt_strict key).asymm a b ((lexGt_iff key a b).mpr h)

theorem Ahead.trans {key : Fin n → α} {a b c : Fin n} (h : Ahead key a b) (k : Ahead key b c) : Ahead key a c :=
  (lexGt_iff key a c).mp ((lexGt_strict key).trans a b c ((lexGt_iff key a b).mpr h) ((lexGt_iff key b c).mpr k))

/-- Inserting a position that comes before all those of an ordered list keeps it ordered. -/
theorem insert_ordered (key : Fin n → α) (a : Fin n) : ∀ l : List (Fin n), (∀ b ∈ l, a < b) → l.Pairwise (Ahead key) →
    (insertBefore (keyGt key) a l).Pairwise (Ahead key)
  | [], _, _ => by simp [insertBefore]
  | b :: l, ha, hl => by
    rw [List.pairwise_cons] at hl
    unfold insertBefore
    split
    · rename_i hba
      refine List.pairwise_cons.mpr ⟨fun c hc => ?_, insert_ordered key a l (fun c hc => ha c (List.mem_cons_of_mem _ hc)) hl.2⟩
      rcases List.mem_cons.mp ((perm_insertBefore _ _ _).mem_iff.mp hc) with rfl | hc
      · exact Or.inl (of_decide_eq_true hba)
      · exact hl.1 c hc
    · rename_i hba
      have hab : Ahead key a b := by
        rcases lt_trichotomy (key a) (key b) with h | h | h
        · exact absurd (decide_eq_true h) hba
        · exact Or.inr ⟨h, ha b List.mem_cons_self⟩
        · exact Or.inl h
      refine List.pairwise_cons.mpr ⟨fun c hc => ?_, List.pairwise_cons.mpr hl⟩
      rcases List.mem_cons.mp hc with rfl | hc
      · exact hab
      · exact hab.trans (hl.1 c hc)

/-- The stable sort of positions given in their own order is ordered by key, then position. -/
theorem sort_ordered (key : Fin n → α) : ∀ l : List (Fin n), l.Pairwise (· < ·) →
    (stableSort (keyGt key) l).Pairwise (Ahead key)
  | [], _ => List.Pairwise.nil
  | a :: l, h => by
    rw [List.pairwise_cons] at h
    unfold stableSort
    exact insert_ordered key a _ (fun b hb => h.1 b ((perm_stableSort _ _).mem_iff.mp hb)) (sort_ordered key l h.2)

/-- Sorting by the key alone and by key and then position come to the same. -/
theorem sortPositions_key (key : Fin n → α) : sortPositions n (keyGt key) = sortPositions n (lexGt key) :=
  (lexGt_strict key).eq_stableSort_of_sorted (perm_stableSort _ _)
    ((sort_ordered key (List.finRange n) (List.pairwise_lt_finRange n)).imp fun h => not_lexGt_of_ahead key h)

/-- `a` is the position with the greatest key, the earliest of those. -/
def IsFirst (key : Fin n → α) (a : Fin n) : Prop := ∀ p, p ≠ a → Ahead key a p

/-- `b` is the position with the greatest key once `a` is left out, the earliest of those. -/
def IsNext (key : Fin n → α) (a b : Fin n) : Prop := b ≠ a ∧ ∀ p, p ≠ a → p ≠ b → Ahead key b p

/-- The two leading positions of the stable sort. -/
theorem sortedFrom_two {key : Fin n → α} {a b : Fin n} (ha : IsFirst key a) (hb : IsNext key a b) (h2 : 2 ≤ n)
    (i : Fin 2) : sortedFrom (keyGt key) (i.castLE h2) = (![a, b] : Fin 2 → Fin n) i := by
  have hs : sortedFrom (keyGt key) (i.castLE h2) = sortedFrom (lexGt key) (i.castLE h2) :=
    List.get_of_eq (sortPositions_key key) _
  rw [hs]
  refine (lexGt_strict key).sortedFrom_eq_of_prefix h2 ![a, b] ?_ ?_ ?_ i
  · intro i j hij
    match i, j, hij with
    | 0, 0, _ => rfl
    | 0, 1, hij => exact absurd hij hb.1.symm
    | 1, 0, hij => exact absurd hij hb.1
    | 1, 1, _ => rfl
  · intro i j hij
    match i, j, hij with
    | 0, 0, hij => exact absurd hij (by decide)
    | 0, 1, _ => exact not_lexGt_of_ahead key (ha b hb.1)
    | 1, 0, hij => exact absurd hij (by decide)
    | 1, 1, hij => exact absurd hij (by decide)
  · intro i p hp
    match i with
    | 0 => exact not_lexGt_of_ahead key (ha p (hp 0).symm)
    | 1 => exact not_lexGt_of_ahead key (hb.2 p (hp 0).symm (hp 1).symm)

end Cert.Proof

end
-- ==== Proof.Row.lean ====
/-
  One token's row of 64 logits.

  The greatest entry, the first position that attains it, the row with that position struck out, and the first position
  that attains the greatest entry of what is left. When every logit is a real number these are the two leading positions
  of the row, and, the softmax being increasing, of its softmax.
-/
module

public import proofs.«01_k».proof.Proof.TopTwo
public import Idealize.ShloMosaic.PureOps.Ideal.Laws
public import Idealize.ShloMosaic.Lib.SortNet.Extract

@[expose] public section

noncomputable section

namespace Cert.Proof

open Idealize.ShloMosaic

/-- A row of extended reals, one for each of the 64 experts. -/
abbrev Row := Fin 64 → EReal

/-- The greatest entry of a row. -/
def top (f : Row) : EReal := Finset.univ.fold max ⊥ f

theorem le_top_row (f : Row) (k : Fin 64) : f k ≤ top f :=
  (Finset.le_fold_max _).mpr (Or.inr ⟨k, Finset.mem_univ k, le_rfl⟩)

theorem top_le {f : Row} {c : EReal} (h : ∀ k, f k ≤ c) : top f ≤ c :=
  (Finset.fold_max_le _).mpr ⟨bot_le, fun k _ => h k⟩

/-- The greatest entry is one of the entries. -/
theorem exists_eq_top (f : Row) : ∃ k, f k = top f := by
  obtain ⟨k, -, hk⟩ := Finset.exists_max_image Finset.univ f ⟨0, Finset.mem_univ _⟩
  exact ⟨k, le_antisymm (le_top_row f k) (top_le fun p => hk p (Finset.mem_univ p))⟩

/-- The positions at which the row attains its greatest entry. -/
def tops (f : Row) : Finset (Fin 64) := by
  classical exact Finset.univ.filter fun k => f k = top f

theorem mem_tops {f : Row} {k : Fin 64} : k ∈ tops f ↔ f k = top f := by
  simp [tops]

/-- The first position at which the row attains its greatest entry. -/
def first (f : Row) : Fin 64 := (tops f).min' (by
  obtain ⟨k, hk⟩ := exists_eq_top f
  exact ⟨k, mem_tops.mpr hk⟩)

theorem at_first (f : Row) : f (first f) = top f := mem_tops.mp (Finset.min'_mem _ _)

theorem first_le {f : Row} {k : Fin 64} (h : f k = top f) : first f ≤ k := Finset.min'_le _ _ (mem_tops.mpr h)

theorem ne_top_of_lt_first {f : Row} {k : Fin 64} (h : k < first f) : f k ≠ top f :=
  fun e => absurd (first_le e) (not_le.mpr h)

/-- The first position attaining the greatest entry stands before every other. -/
theorem isFirst_first (f : Row) : IsFirst f (first f) := by
  intro p hp
  rcases (le_top_row f p).lt_or_eq with h | h
  · exact Or.inl (by rw [at_first f]; exact h)
  · exact Or.inr ⟨by rw [at_first f, h], lt_of_le_of_ne (first_le h) hp.symm⟩

/-- The row with its leading position struck out. -/
def struck (f : Row) : Row := fun k => if k = first f then ⊥ else f k

/-- The second position: the first that attains the greatest entry of what is left. -/
def second (f : Row) : Fin 64 := first (struck f)

/-- Every entry of the row is a real number. -/
def Real' (f : Row) : Prop := ∀ k, ∃ r : ℝ, f k = (r : EReal)

theorem second_ne_first {f : Row} (hf : Real' f) : second f ≠ first f := by
  intro h
  have hb : top (struck f) = ⊥ := by
    rw [← at_first (struck f)]
    show struck f (second f) = ⊥
    rw [h]; exact if_pos rfl
  obtain ⟨p, hp⟩ : ∃ p : Fin 64, p ≠ first f := exists_ne _
  have hle := le_top_row (struck f) p
  rw [hb, le_bot_iff] at hle
  obtain ⟨r, hr⟩ := hf p
  have : struck f p = (r : EReal) := (if_neg hp).trans hr
  rw [this] at hle
  exact EReal.coe_ne_bot r hle

/-- What is left of the row attains its greatest entry at the second position, where it is the row's own entry. -/
theorem top_struck {f : Row} (hf : Real' f) : top (struck f) = f (second f) := by
  rw [← at_first (struck f)]
  exact if_neg (second_ne_first hf)

/-- The second position stands before every position but the first. -/
theorem isNext_second {f : Row} (hf : Real' f) : IsNext f (first f) (second f) := by
  refine ⟨second_ne_first hf, fun p hp hp' => ?_⟩
  have h := isFirst_first (struck f) p hp'
  unfold Ahead at h
  rw [show struck f p = f p from if_neg hp, show struck f (first (struck f)) = f (second f) from if_neg (second_ne_first hf)] at h
  exact h

/-! ## Positions found by a running minimum of words -/

/-- The running minimum of words that are the position where `P` holds and `64` elsewhere ends at the first position
    where `P` holds. -/
theorem fold_min_position (P : Fin 64 → Prop) [DecidablePred P] (i : Fin 64) (hi : P i) (hlt : ∀ j, j < i → ¬ P j) :
    Finset.univ.fold IntOp.minsi 2147483647#32 (fun k : Fin 64 => if P k then BitVec.ofNat 32 k.val else 64#32)
      = BitVec.ofNat 32 i.val := by
  have toInt_pos : ∀ k : Fin 64, (BitVec.ofNat 32 k.val).toInt = k.val := by decide
  have key : ∀ s : Finset (Fin 64), (s.fold IntOp.minsi 2147483647#32 (fun k : Fin 64 => if P k then BitVec.ofNat 32 k.val else 64#32)).toInt
      = s.fold min 2147483647 (fun k : Fin 64 => if P k then (k.val : Int) else 64) := by
    intro s
    induction s using Finset.induction_on with
    | empty => rfl
    | insert a s ha ih =>
      rw [Finset.fold_insert ha, Finset.fold_insert ha, SortNet.toInt_minsi, ih]
      congr 1
      split
      · exact toInt_pos a
      · rfl
  refine BitVec.eq_of_toInt_eq ?_
  rw [key, toInt_pos]
  refine le_antisymm ((Finset.fold_min_le _).mpr (Or.inr ⟨i, Finset.mem_univ i, by rw [if_pos hi]⟩)) ?_
  refine (Finset.le_fold_min _).mpr ⟨by omega, fun k _ => ?_⟩
  split
  · rename_i hk
    have : i ≤ k := not_lt.mp fun h => hlt k h hk
    exact_mod_cast this
  · omega

/-- The first position at which the row attains its greatest entry, as that running minimum. -/
theorem fold_min_first (f : Row) (c : EReal) (hc : c = top f) :
    Finset.univ.fold IntOp.minsi 2147483647#32 (fun k : Fin 64 => if f k = c then BitVec.ofNat 32 k.val else 64#32)
      = BitVec.ofNat 32 (first f).val := by
  subst hc
  exact fold_min_position (fun k => f k = top f) (first f) (at_first f) fun j hj => ne_top_of_lt_first hj

/-! ## The softmax -/

/-- The exponentials of the row's distances from its greatest entry. -/
def expo (f : Row) : Row := fun k => Ideal.exp (f k - top f)

/-- Their sum. -/
def mass (f : Row) : EReal := ∑ k, expo f k

/-- The softmax of the row. -/
def soft (f : Row) : Row := fun k => Ideal.div (expo f k) (mass f)

/-- A sum of real numbers is the same among the extended reals. -/
theorem coe_sum {ι : Type} (s : Finset ι) (r : ι → ℝ) : ((∑ k ∈ s, r k : ℝ) : EReal) = ∑ k ∈ s, (r k : EReal) := by
  classical
  induction s using Finset.induction_on with
  | empty => simp
  | insert a s ha ih => rw [Finset.sum_insert ha, Finset.sum_insert ha, EReal.coe_add, ih]

variable {f : Row}

/-- Of a real row: the greatest entry, the exponentials and their sum are real, the sum positive. -/
theorem soft_real (hf : Real' f) : ∃ (r : Fin 64 → ℝ) (M d : ℝ), (∀ k, f k = (r k : EReal)) ∧ top f = (M : EReal) ∧ 0 < d
    ∧ (∀ k, expo f k = ((Real.exp (r k - M) : ℝ) : EReal)) ∧ mass f = (d : EReal) := by
  choose r hr using hf
  have hM : top f = ((r (first f) : ℝ) : EReal) := by rw [← at_first, hr]
  have he : ∀ k, expo f k = ((Real.exp (r k - r (first f)) : ℝ) : EReal) := fun k => by
    unfold expo
    rw [hM, hr k, ← EReal.coe_sub, Ideal.exp_coe]
  refine ⟨r, r (first f), ∑ k, Real.exp (r k - r (first f)), hr, hM, ?_, he, ?_⟩
  · exact Finset.sum_pos (fun k _ => Real.exp_pos _) ⟨0, Finset.mem_univ _⟩
  · unfold mass
    rw [coe_sum]
    exact Finset.sum_congr rfl fun k _ => he k

/-- Dividing by the sum is multiplying by one over it. -/
theorem soft_eq_mul (hf : Real' f) (k : Fin 64) : expo f k * Ideal.div 1 (mass f) = soft f k := by
  obtain ⟨r, M, d, -, -, hd, -, hm⟩ := soft_real hf
  unfold soft
  rw [hm, Ideal.div_coe hd.ne', Ideal.div_coe hd.ne', one_mul]

/-- The leading entry's exponential is one. -/
theorem expo_first (hf : Real' f) : expo f (first f) = 1 := by
  obtain ⟨r, M, d, hr, hM, hd, he, hm⟩ := soft_real hf
  have : r (first f) = M := by
    have := at_first f
    rw [hM, hr] at this
    exact_mod_cast this
  rw [he, this, sub_self, Real.exp_zero]; rfl

/-- The softmax at the leading position is one over the sum. -/
theorem soft_first (hf : Real' f) : soft f (first f) = Ideal.div 1 (mass f) := by
  unfold soft; rw [expo_first hf]

/-- The softmax is increasing. -/
theorem soft_lt_iff (hf : Real' f) (a b : Fin 64) : soft f a < soft f b ↔ f a < f b := by
  obtain ⟨r, M, d, hr, hM, hd, he, hm⟩ := soft_real hf
  unfold soft
  rw [hm, Ideal.div_coe hd.ne', Ideal.div_coe hd.ne', he, he, hr, hr, ← EReal.coe_mul, ← EReal.coe_mul, EReal.coe_lt_coe_iff,
    EReal.coe_lt_coe_iff, mul_lt_mul_iff_left₀ (by positivity), Real.exp_lt_exp]
  constructor <;> intro h <;> linarith

/-- A position standing before another in the row stands before it in the softmax. -/
theorem ahead_soft (hf : Real' f) {a b : Fin 64} (h : Ahead f a b) : Ahead (soft f) a b := by
  rcases h with h | ⟨h, hab⟩
  · exact Or.inl ((soft_lt_iff hf b a).mpr h)
  · refine Or.inr ⟨le_antisymm (not_lt.mp fun h' => ?_) (not_lt.mp fun h' => ?_), hab⟩
    · exact absurd ((soft_lt_iff hf _ _).mp h') (by rw [h]; exact lt_irrefl _)
    · exact absurd ((soft_lt_iff hf _ _).mp h') (by rw [h]; exact lt_irrefl _)

/-- The two leading positions of the softmax are those of the row. -/
theorem sorted_soft (hf : Real' f) (i : Fin 2) :
    sortedFrom (keyGt (soft f)) (i.castLE (by decide : 2 ≤ 64)) = (![first f, second f] : Fin 2 → Fin 64) i :=
  sortedFrom_two (fun p hp => ahead_soft hf (isFirst_first f p hp))
    ⟨second_ne_first hf, fun p hp hp' => ahead_soft hf ((isNext_second hf).2 p hp hp')⟩ _ i

end Cert.Proof

end
-- ==== Proof.BlockRead.lean ====
/-
  What the kernel's body computes from a block of 2048 tokens and the weight matrix, entry by entry.

  Everything is a function of the tokens' rows of logits: the two indices, the two weights, how often each expert is
  chosen in the block, and the sum over the block of the softmax.
-/
module

public import proofs.«01_k».proof.Proof.Row
public import proofs.«01_k».proof.Proof.Gen.KernelIdeal.Skeleton
public import Idealize.ShloMosaic.Lib.Pointwise

@[expose] public section

set_option maxRecDepth 16384

noncomputable section

namespace Cert.Proof

open Idealize.ShloMosaic Cert.KernelIdeal Cert.KernelIdeal.Gen

/-! ## What is computed from a row -/

/-- The two chosen positions of a row. -/
def chosen (f : Row) : Fin 2 → Fin 64 := ![first f, second f]

/-- The small number added to the sum of the two chosen probabilities. -/
def tiny : EReal := Ideal.ofBits .f32 0x322BCC77#32

/-- The weight of a chosen position: its probability over the sum of the two. -/
def weight (f : Row) (i : Fin 2) : EReal :=
  Ideal.div (soft f (chosen f i)) (soft f (first f) + soft f (second f) + tiny)

/-- How often a position is among the two chosen. -/
def hits (f : Row) (e : Fin 64) : EReal := (if first f = e then 1 else 0) + (if second f = e then 1 else 0)

/-! ## The block -/

variable (w : Vec Ideal S64x2048 .f32) (x : Vec Ideal S2048x2048 .f32)

/-- The row of logits of the block's token `t`. -/
def blockRow (t : Fin 2048) : Row := fun e => ∑ k : Fin 2048, w (ix2 e k) * x (ix2 t k)

theorem negInf : Ideal.ofBits FTy.f32 4286578688#32 = ⊥ := by
  simp [Ideal.ofBits, Ideal.ieee]

theorem pay2_at (e : Fin 64) (t : Fin 2048) : k0_pay2 w x (ix2 e t) = blockRow w x t e := by
  pointwise [k0_pay2]
  rfl

theorem pay3_at (t : Fin 2048) : k0_pay3 w x (ix2 0 t) = top (blockRow w x t) := by
  pointwise [k0_pay3]
  simp only [negInf, pay2_at]
  rfl

theorem pay4_at (t : Fin 2048) : k0_pay4 w x (ix2 0 t) = BitVec.ofNat 32 (first (blockRow w x t)).val := by
  pointwise [k0_pay4]
  simp only [pay2_at]
  exact fold_min_first (blockRow w x t) _ (pay3_at w x t)

/-- Two positions are equal exactly when their words are. -/
theorem ofNat_pos (a b : Fin 64) : (BitVec.ofNat 32 a.val = BitVec.ofNat 32 b.val) ↔ a = b := by
  constructor
  · intro h
    have h := congrArg BitVec.toNat h
    simp only [BitVec.toNat_ofNat] at h
    exact Fin.ext (by omega)
  · rintro rfl; rfl

/-- Comparing the words of two positions. -/
theorem cmpi_pos (a b : Fin 64) : IntOp.cmpi .eq (BitVec.ofNat 32 a.val) (BitVec.ofNat 32 b.val) = BitVec.ofBool (decide (b = a)) := by
  have h : (BitVec.ofNat 32 a.val == BitVec.ofNat 32 b.val) = decide (b = a) := by
    rw [Bool.eq_iff_iff, beq_iff_eq, decide_eq_true_iff, ofNat_pos, eq_comm]
  exact congrArg BitVec.ofBool h

theorem pay5_at (e : Fin 64) (t : Fin 2048) : k0_pay5 w x (ix2 e t) = BitVec.ofBool (decide (first (blockRow w x t) = e)) := by
  pointwise [k0_pay5]
  rw [pay4_at, cmpi_pos]

theorem pay6_at (e : Fin 64) (t : Fin 2048) : k0_pay6 w x (ix2 e t) = struck (blockRow w x t) e := by
  pointwise [k0_pay6]
  rw [pay5_at, negInf, pay2_at]
  unfold struck
  by_cases h : first (blockRow w x t) = e
  · rw [if_pos h.symm, decide_eq_true h]; rfl
  · rw [if_neg (Ne.symm h), decide_eq_false h]; rfl

theorem pay7_at (t : Fin 2048) : k0_pay7 w x (ix2 0 t) = top (struck (blockRow w x t)) := by
  pointwise [k0_pay7]
  simp only [negInf, pay6_at]
  rfl

theorem pay8_at (t : Fin 2048) : k0_pay8 w x (ix2 0 t) = BitVec.ofNat 32 (second (blockRow w x t)).val := by
  pointwise [k0_pay8]
  simp only [pay6_at]
  exact fold_min_first (struck (blockRow w x t)) _ (pay7_at w x t)

theorem pay9_at (e : Fin 64) (t : Fin 2048) : k0_pay9 w x (ix2 e t) = BitVec.ofBool (decide (second (blockRow w x t) = e)) := by
  pointwise [k0_pay9]
  rw [pay8_at, cmpi_pos]

theorem pay10_at (e : Fin 64) (t : Fin 2048) : k0_pay10 w x (ix2 e t) = expo (blockRow w x t) e := by
  pointwise [k0_pay10]
  rw [pay2_at, pay3_at]
  rfl

theorem pay11_at (t : Fin 2048) : k0_pay11 w x (ix2 0 t) = Ideal.div 1 (mass (blockRow w x t)) := by
  pointwise [k0_pay11]
  simp only [pay10_at]
  rfl

variable {w x}

theorem pay11_soft {t : Fin 2048} (h : Real' (blockRow w x t)) :
    k0_pay11 w x (ix2 0 t) = soft (blockRow w x t) (first (blockRow w x t)) := by
  rw [pay11_at, soft_first h]

theorem pay12_at {t : Fin 2048} (h : Real' (blockRow w x t)) (e : Fin 64) :
    k0_pay12 w x (ix2 e t) = soft (blockRow w x t) e := by
  pointwise [k0_pay12]
  rw [pay10_at, pay11_at, soft_eq_mul h]

theorem pay13_at {t : Fin 2048} (h : Real' (blockRow w x t)) :
    k0_pay13 w x (ix2 0 t) = soft (blockRow w x t) (second (blockRow w x t)) := by
  pointwise [k0_pay13]
  rw [pay7_at, pay3_at, pay11_at, top_struck h]
  exact soft_eq_mul h _

theorem pay14_at {t : Fin 2048} (h : Real' (blockRow w x t)) :
    k0_pay14 w x (ix2 0 t)
      = soft (blockRow w x t) (first (blockRow w x t)) + soft (blockRow w x t) (second (blockRow w x t)) + tiny := by
  pointwise [k0_pay14]
  rw [pay11_soft h, pay13_at h]
  rfl

/-! ## The two results of the tokens, interleaved -/

/-- The token an entry of the interleaved results belongs to. -/
def tokOf (p : Fin 4096) : Fin 2048 := ⟨p.val / 2, by omega⟩

/-- Which of the token's two choices the entry is. -/
def sideOf (p : Fin 4096) : Fin 2 := ⟨p.val % 2, by omega⟩

/-- Choosing by the parity of the entry's word. -/
theorem select_parity {α : Type} (p : Fin 4096) (a b : α) :
    Scalar.select (IntOp.cmpi CmpIPredicate.eq (IntOp.andi (BitVec.ofNat 32 p.val) 1#32) 0#32) a b
      = (![a, b] : Fin 2 → α) (sideOf p) := by
  have hn : (IntOp.andi (BitVec.ofNat 32 p.val) 1#32).toNat = p.val % 2 := by
    show (BitVec.ofNat 32 p.val &&& 1#32).toNat = _
    rw [BitVec.toNat_and, BitVec.toNat_ofNat]
    show p.val % 2 ^ 32 &&& 1 = _
    rw [Nat.and_one_is_mod]
    omega
  have hc : (IntOp.andi (BitVec.ofNat 32 p.val) 1#32 == 0#32) = decide (p.val % 2 = 0) := by
    rw [Bool.eq_iff_iff, beq_iff_eq, decide_eq_true_iff, ← hn]
    exact ⟨fun h => by rw [h]; rfl, fun h => BitVec.eq_of_toNat_eq h⟩
  show Scalar.select (BitVec.ofBool _) a b = _
  rw [hc]
  rcases Nat.mod_two_eq_zero_or_one p.val with h | h
  · rw [decide_eq_true h, show sideOf p = 0 from Fin.ext h]; rfl
  · rw [decide_eq_false (by omega), show sideOf p = 1 from Fin.ext h]; rfl

theorem pay16_at (p : Fin 4096) :
    k0_pay16 (k0_pay4 w x) (k0_pay8 w x) (iota .tc S1x4096 32 [1] iota_S1x4096_d1_w32) 1#32 (ix2 0 p)
      = BitVec.ofNat 32 (chosen (blockRow w x (tokOf p)) (sideOf p)).val := by
  pointwise [k0_pay16, k0_pay15]
  rw [select_parity]
  have h4 := pay4_at w x (tokOf p)
  have h8 := pay8_at w x (tokOf p)
  unfold tokOf at h4 h8
  rw [h4, h8]
  unfold chosen tokOf
  generalize sideOf p = s
  fin_cases s <;> rfl

theorem pay17_at (p : Fin 4096) (h : Real' (blockRow w x (tokOf p))) :
    k0_pay17 (k0_pay11 w x) (k0_pay13 w x) (k0_pay14 w x) (iota .tc S1x4096 32 [1] iota_S1x4096_d1_w32) 1#32 (ix2 0 p)
      = weight (blockRow w x (tokOf p)) (sideOf p) := by
  pointwise [k0_pay17, k0_pay15]
  rw [select_parity]
  have h11 := pay11_soft h
  have h13 := pay13_at h
  have h14 := pay14_at h
  unfold weight
  rw [← h14]
  unfold chosen
  generalize sideOf p = s
  fin_cases s
  · show Ideal.div (k0_pay11 w x (ix2 0 (tokOf p))) (k0_pay14 w x (ix2 0 (tokOf p))) = _
    rw [h11]; rfl
  · show Ideal.div (k0_pay13 w x (ix2 0 (tokOf p))) (k0_pay14 w x (ix2 0 (tokOf p))) = _
    rw [h13]; rfl

/-! ## The sums over the block -/

/-- A truth value, widened and read as a number. -/
theorem number_of_bit (b : Prop) [Decidable b] :
    (FloatOps.sitofp FTy.f32 (BitVec.setWidth 32 (BitVec.ofBool (decide b))) : Ideal .f32) = if b then 1 else 0 := by
  by_cases h : b
  · rw [decide_eq_true h, if_pos h]
    show (((BitVec.setWidth 32 (BitVec.ofBool true)).toInt : ℝ) : EReal) = 1
    rw [show (BitVec.setWidth 32 (BitVec.ofBool true)).toInt = 1 from by decide]
    simp
  · rw [decide_eq_false h, if_neg h]
    show (((BitVec.setWidth 32 (BitVec.ofBool false)).toInt : ℝ) : EReal) = 0
    rw [show (BitVec.setWidth 32 (BitVec.ofBool false)).toInt = 0 from by decide]
    simp

/-- How often the block's tokens choose expert `e`. -/
theorem pay18_at (e : Fin 64) :
    k0_pay18 (F := Ideal) (k0_pay5 w x) (k0_pay9 w x) (ix2 e 0) = ∑ t : Fin 2048, hits (blockRow w x t) e := by
  pointwise [k0_pay18]
  refine Finset.sum_congr rfl fun t _ => ?_
  rw [pay5_at, pay9_at, number_of_bit, number_of_bit]
  rfl

/-- The block's sum of expert `e`'s probabilities. -/
theorem pay19_at (h : ∀ t, Real' (blockRow w x t)) (e : Fin 64) :
    k0_pay19 (F := Ideal) (k0_pay12 w x) (ix2 e 0) = ∑ t : Fin 2048, soft (blockRow w x t) e := by
  pointwise [k0_pay19]
  exact Finset.sum_congr rfl fun t _ => pay12_at (h t) e

/-- The block's counts added to those so far. -/
theorem pay20_at (v : Vec Ideal S64x1 .f32) (e : Fin 64) :
    k0_pay20 (F := Ideal) (k0_pay5 w x) (k0_pay9 w x) v (ix2 e 0) = v (ix2 e 0) + ∑ t : Fin 2048, hits (blockRow w x t) e := by
  pointwise [k0_pay20]
  rw [pay18_at]

/-- The block's sums of probabilities added to those so far. -/
theorem pay21_at (h : ∀ t, Real' (blockRow w x t)) (v : Vec Ideal S64x1 .f32) (e : Fin 64) :
    k0_pay21 (F := Ideal) (k0_pay12 w x) v (ix2 e 0) = v (ix2 e 0) + ∑ t : Fin 2048, soft (blockRow w x t) e := by
  pointwise [k0_pay21]
  rw [pay19_at h]

/-- The balance term, of the counts and the sums of probabilities. -/
def balance (cnt ps : Fin 64 → EReal) : EReal :=
  Ideal.ofBits .f32 0x42800000#32 * ∑ e : Fin 64, Ideal.div (cnt e) (Ideal.ofBits .f32 0x47000000#32) * Ideal.div (ps e) (Ideal.ofBits .f32 0x46800000#32)

theorem pay1_at (a b : Vec Ideal S64x1 .f32) :
    k0_pay1 (F := Ideal) a b (ix2 0 0) = balance (fun e => a (ix2 e 0)) (fun e => b (ix2 e 0)) := by
  pointwise [k0_pay1]
  unfold balance
  simp

end Cert.Proof

end
-- ==== Proof.Tokens.lean ====
/-
  The row of logits of a token, from the two argument arrays; and the results as functions of the tokens' rows.
-/
module

public import proofs.«01_k».proof.Proof.BlockRead

@[expose] public section

noncomputable section

namespace Cert.Proof

open Idealize.ShloMosaic

/-- The tokens, as an array with a batch axis, a sequence axis and a feature axis. -/
abbrev TokenArray := Vec Ideal (⟨3, ![4, 4096, 2048]⟩ : Shape) .f32

/-- The weight matrix, one row an expert. -/
abbrev WeightArray := Vec Ideal (⟨2, ![64, 2048]⟩ : Shape) .f32

/-- The row of logits of token `T`, tokens numbered along the flattened batch and sequence axes. -/
def tokenRow (X : TokenArray) (W : WeightArray) (T : Fin 16384) : Row :=
  fun e => ∑ k : Fin 2048, W (ix2 e k) * X (ix3 (⟨T.val / 4096, by omega⟩ : Fin 4) (⟨T.val % 4096, by omega⟩ : Fin 4096) k)

/-- How often expert `e` is chosen by the tokens. -/
def countOf (X : TokenArray) (W : WeightArray) (e : Fin 64) : EReal := ∑ T : Fin 16384, hits (tokenRow X W T) e

/-- The sum of expert `e`'s probabilities over the tokens. -/
def massOf (X : TokenArray) (W : WeightArray) (e : Fin 64) : EReal := ∑ T : Fin 16384, soft (tokenRow X W T) e

/-- The first result: the two chosen experts of every token. -/
def resultIndices (X : TokenArray) (W : WeightArray) : Vec Ideal (⟨2, ![16384, 2]⟩ : Shape) .i32 :=
  fun j => BitVec.ofNat 32 (chosen (tokenRow X W (j 0)) (j 1)).val

/-- The second result: their weights. -/
def resultWeights (X : TokenArray) (W : WeightArray) : Vec Ideal (⟨2, ![16384, 2]⟩ : Shape) .f32 :=
  fun j => weight (tokenRow X W (j 0)) (j 1)

/-- The third result: the balance term of the counts and the sums of probabilities. -/
def resultBalance (X : TokenArray) (W : WeightArray) : Vec Ideal (⟨0, ![]⟩ : Shape) .f32 :=
  fun _ => balance (countOf X W) (massOf X W)

end Cert.Proof

end
-- ==== Proof.Points.lean ====
/-
  What each grid point leaves in the blocks it writes.

  The first point stores the block's indices, weights, counts and sums; a middle point stores its indices and weights
  and adds its counts and sums to those it finds; the last point does that and stores the balance term of the totals.
-/
module

public import proofs.«01_k».proof.Proof.Gen.KernelIdeal.Frame
public import Idealize.ShloMosaic.Lib.Pipeline.Value
public import Idealize.ShloMosaic.PureOps.Ideal.Laws

@[expose] public section

set_option maxRecDepth 16384

noncomputable section

namespace Cert.Proof

open Cert.KernelIdeal Cert.KernelIdeal.Gen Idealize.ShloMosaic Idealize.ShloMosaic.TcCoe Idealize.ShloMosaic.Tactic Idealize.SL.Sem

/-- The zero offset of a whole block of two axes. -/
theorem zero2 : (![0, 0] : Fin 2 → Nat) = fun _ => 0 := by
  funext a; fin_cases a <;> rfl

section

variable (c : Dev nD) (i : grid0.Coords)
  (arg1 : Memref sig .tc .vmem S2048x2048 .f32) (harg1 : arg1.IsWhole) (arg2 : Memref sig .tc .vmem S64x2048 .f32) (harg2 : arg2.IsWhole)
  (arg3 : Memref sig .tc .vmem S1x4096 .i32) (harg3 : arg3.IsWhole) (arg4 : Memref sig .tc .vmem S1x4096 .f32) (harg4 : arg4.IsWhole)
  (arg5 : Memref sig .tc .vmem S64x1 .f32) (harg5 : arg5.IsWhole) (arg6 : Memref sig .tc .vmem S64x1 .f32) (harg6 : arg6.IsWhole)
  (arg7 : Memref sig .tc .vmem S1x1 .f32) (harg7 : arg7.IsWhole)
  (x0 : Vec Ideal S2048x2048 .f32) (x1 : Vec Ideal S64x2048 .f32) (xo4 xo5 : Vec Ideal S64x1 .f32)

/-- The first grid point: the indices. -/
theorem pointA_2 (hc0 : cond0_0 i) (hc1 : ¬cond0_1 i) (hc2 : ¬cond0_2 i) :
    out0_A_2 (F := Ideal) c i arg1 harg1 arg2 harg2 arg3 harg3 arg4 harg4 arg5 harg5 arg6 harg6 arg7 harg7 hc0 hc1 hc2 x0 x1
      = k0_pay16 (k0_pay4 x1 x0) (k0_pay8 x1 x0) (iota .tc S1x4096 32 [1] iota_S1x4096_d1_w32) 1#32 := by
  unfold out0_A_2
  rw [View.read_writes_eq_canon _ _ _ (cover0_A_2 c i arg1 harg1 arg2 harg2 arg3 harg3 arg4 harg4 arg5 harg5 arg6 harg6 arg7 harg7 hc0 hc1 hc2 x0 x1)]
  unfold kernelRun0_A
  dsimp only
  sl_unfold_words
  rw [View.canon_cons_unit_zero (S := S1x4096) zero2]
  simp only [View.readCov_unit_zero (S := S64x1) _ zero2, View.readAt_eq_ld, harg1.read_unread, harg2.read_unread,
    View.ld_unit_zero (S := S2048x2048) zero2, View.ld_unit_zero (S := S64x2048) zero2, shapeCast_self]

/-- The first grid point: the weights. -/
theorem pointA_3 (hc0 : cond0_0 i) (hc1 : ¬cond0_1 i) (hc2 : ¬cond0_2 i) :
    out0_A_3 (F := Ideal) c i arg1 harg1 arg2 harg2 arg3 harg3 arg4 harg4 arg5 harg5 arg6 harg6 arg7 harg7 hc0 hc1 hc2 x0 x1
      = k0_pay17 (k0_pay11 x1 x0) (k0_pay13 x1 x0) (k0_pay14 x1 x0) (iota .tc S1x4096 32 [1] iota_S1x4096_d1_w32) 1#32 := by
  unfold out0_A_3
  rw [View.read_writes_eq_canon _ _ _ (cover0_A_3 c i arg1 harg1 arg2 harg2 arg3 harg3 arg4 harg4 arg5 harg5 arg6 harg6 arg7 harg7 hc0 hc1 hc2 x0 x1)]
  unfold kernelRun0_A
  dsimp only
  sl_unfold_words
  rw [View.canon_cons_unit_zero (S := S1x4096) zero2]
  simp only [View.readCov_unit_zero (S := S64x1) _ zero2, View.readAt_eq_ld, harg1.read_unread, harg2.read_unread,
    View.ld_unit_zero (S := S2048x2048) zero2, View.ld_unit_zero (S := S64x2048) zero2, shapeCast_self]

/-- The first grid point: the counts. -/
theorem pointA_4 (hc0 : cond0_0 i) (hc1 : ¬cond0_1 i) (hc2 : ¬cond0_2 i) :
    out0_A_4 (F := Ideal) c i arg1 harg1 arg2 harg2 arg3 harg3 arg4 harg4 arg5 harg5 arg6 harg6 arg7 harg7 hc0 hc1 hc2 x0 x1
      = k0_pay18 (F := Ideal) (k0_pay5 x1 x0) (k0_pay9 x1 x0) := by
  unfold out0_A_4
  rw [View.read_writes_eq_canon _ _ _ (cover0_A_4 c i arg1 harg1 arg2 harg2 arg3 harg3 arg4 harg4 arg5 harg5 arg6 harg6 arg7 harg7 hc0 hc1 hc2 x0 x1)]
  unfold kernelRun0_A
  dsimp only
  sl_unfold_words
  rw [View.canon_cons_unit_zero (S := S64x1) zero2]
  simp only [View.readCov_unit_zero (S := S64x1) _ zero2, View.readAt_eq_ld, harg1.read_unread, harg2.read_unread,
    View.ld_unit_zero (S := S2048x2048) zero2, View.ld_unit_zero (S := S64x2048) zero2, shapeCast_self]

/-- The first grid point: the sums of probabilities. -/
theorem pointA_5 (hc0 : cond0_0 i) (hc1 : ¬cond0_1 i) (hc2 : ¬cond0_2 i) :
    out0_A_5 (F := Ideal) c i arg1 harg1 arg2 harg2 arg3 harg3 arg4 harg4 arg5 harg5 arg6 harg6 arg7 harg7 hc0 hc1 hc2 x0 x1
      = k0_pay19 (k0_pay12 x1 x0) := by
  unfold out0_A_5
  rw [View.read_writes_eq_canon _ _ _ (cover0_A_5 c i arg1 harg1 arg2 harg2 arg3 harg3 arg4 harg4 arg5 harg5 arg6 harg6 arg7 harg7 hc0 hc1 hc2 x0 x1)]
  unfold kernelRun0_A
  dsimp only
  sl_unfold_words
  rw [View.canon_cons_unit_zero (S := S64x1) zero2]
  simp only [View.readCov_unit_zero (S := S64x1) _ zero2, View.readAt_eq_ld, harg1.read_unread, harg2.read_unread,
    View.ld_unit_zero (S := S2048x2048) zero2, View.ld_unit_zero (S := S64x2048) zero2, shapeCast_self]

/-- A middle grid point: the indices. -/
theorem pointB_2 (hc0 : ¬cond0_0 i) (hc1 : cond0_1 i) (hc2 : ¬cond0_2 i) :
    out0_B_2 (F := Ideal) c i arg1 harg1 arg2 harg2 arg3 harg3 arg4 harg4 arg5 harg5 arg6 harg6 arg7 harg7 hc0 hc1 hc2 x0 x1 xo4 xo5
      = k0_pay16 (k0_pay4 x1 x0) (k0_pay8 x1 x0) (iota .tc S1x4096 32 [1] iota_S1x4096_d1_w32) 1#32 := by
  unfold out0_B_2
  rw [View.read_writes_eq_canon _ _ _ (cover0_B_2 c i arg1 harg1 arg2 harg2 arg3 harg3 arg4 harg4 arg5 harg5 arg6 harg6 arg7 harg7 hc0 hc1 hc2 x0 x1 xo4 xo5)]
  unfold kernelRun0_B
  dsimp only
  sl_unfold_words
  rw [View.canon_cons_unit_zero (S := S1x4096) zero2]
  simp only [View.readCov_unit_zero (S := S64x1) _ zero2, View.readAt_eq_ld, harg1.read_unread, harg2.read_unread, harg5.read_unread, harg6.read_unread,
    View.ld_unit_zero (S := S2048x2048) zero2, View.ld_unit_zero (S := S64x2048) zero2, View.ld_unit_zero (S := S64x1) zero2, shapeCast_self]

/-- A middle grid point: the weights. -/
theorem pointB_3 (hc0 : ¬cond0_0 i) (hc1 : cond0_1 i) (hc2 : ¬cond0_2 i) :
    out0_B_3 (F := Ideal) c i arg1 harg1 arg2 harg2 arg3 harg3 arg4 harg4 arg5 harg5 arg6 harg6 arg7 harg7 hc0 hc1 hc2 x0 x1 xo4 xo5
      = k0_pay17 (k0_pay11 x1 x0) (k0_pay13 x1 x0) (k0_pay14 x1 x0) (iota .tc S1x4096 32 [1] iota_S1x4096_d1_w32) 1#32 := by
  unfold out0_B_3
  rw [View.read_writes_eq_canon _ _ _ (cover0_B_3 c i arg1 harg1 arg2 harg2 arg3 harg3 arg4 harg4 arg5 harg5 arg6 harg6 arg7 harg7 hc0 hc1 hc2 x0 x1 xo4 xo5)]
  unfold kernelRun0_B
  dsimp only
  sl_unfold_words
  rw [View.canon_cons_unit_zero (S := S1x4096) zero2]
  simp only [View.readCov_unit_zero (S := S64x1) _ zero2, View.readAt_eq_ld, harg1.read_unread, harg2.read_unread, harg5.read_unread, harg6.read_unread,
    View.ld_unit_zero (S := S2048x2048) zero2, View.ld_unit_zero (S := S64x2048) zero2, View.ld_unit_zero (S := S64x1) zero2, shapeCast_self]

/-- A middle grid point: the counts. -/
theorem pointB_4 (hc0 : ¬cond0_0 i) (hc1 : cond0_1 i) (hc2 : ¬cond0_2 i) :
    out0_B_4 (F := Ideal) c i arg1 harg1 arg2 harg2 arg3 harg3 arg4 harg4 arg5 harg5 arg6 harg6 arg7 harg7 hc0 hc1 hc2 x0 x1 xo4 xo5
      = k0_pay20 (k0_pay5 x1 x0) (k0_pay9 x1 x0) xo4 := by
  unfold out0_B_4
  rw [View.read_writes_eq_canon _ _ _ (cover0_B_4 c i arg1 harg1 arg2 harg2 arg3 harg3 arg4 harg4 arg5 harg5 arg6 harg6 arg7 harg7 hc0 hc1 hc2 x0 x1 xo4 xo5)]
  unfold kernelRun0_B
  dsimp only
  sl_unfold_words
  rw [View.canon_cons_unit_zero (S := S64x1) zero2]
  simp only [View.readCov_unit_zero (S := S64x1) _ zero2, View.readAt_eq_ld, harg1.read_unread, harg2.read_unread, harg5.read_unread, harg6.read_unread,
    View.ld_unit_zero (S := S2048x2048) zero2, View.ld_unit_zero (S := S64x2048) zero2, View.ld_unit_zero (S := S64x1) zero2, shapeCast_self]

/-- A middle grid point: the sums of probabilities. -/
theorem pointB_5 (hc0 : ¬cond0_0 i) (hc1 : cond0_1 i) (hc2 : ¬cond0_2 i) :
    out0_B_5 (F := Ideal) c i arg1 harg1 arg2 harg2 arg3 harg3 arg4 harg4 arg5 harg5 arg6 harg6 arg7 harg7 hc0 hc1 hc2 x0 x1 xo4 xo5
      = k0_pay21 (k0_pay12 x1 x0) xo5 := by
  unfold out0_B_5
  rw [View.read_writes_eq_canon _ _ _ (cover0_B_5 c i arg1 harg1 arg2 harg2 arg3 harg3 arg4 harg4 arg5 harg5 arg6 harg6 arg7 harg7 hc0 hc1 hc2 x0 x1 xo4 xo5)]
  unfold kernelRun0_B
  dsimp only
  sl_unfold_words
  rw [View.canon_cons_unit_zero (S := S64x1) zero2]
  simp only [View.readCov_unit_zero (S := S64x1) _ zero2, View.readAt_eq_ld, harg1.read_unread, harg2.read_unread, harg5.read_unread, harg6.read_unread,
    View.ld_unit_zero (S := S2048x2048) zero2, View.ld_unit_zero (S := S64x2048) zero2, View.ld_unit_zero (S := S64x1) zero2, shapeCast_self]

/-- The last grid point: the indices. -/
theorem pointC_2 (hc0 : ¬cond0_0 i) (hc1 : cond0_1 i) (hc2 : cond0_2 i) :
    out0_C_2 (F := Ideal) c i arg1 harg1 arg2 harg2 arg3 harg3 arg4 harg4 arg5 harg5 arg6 harg6 arg7 harg7 hc0 hc1 hc2 x0 x1 xo4 xo5
      = k0_pay16 (k0_pay4 x1 x0) (k0_pay8 x1 x0) (iota .tc S1x4096 32 [1] iota_S1x4096_d1_w32) 1#32 := by
  unfold out0_C_2
  rw [View.read_writes_eq_canon _ _ _ (cover0_C_2 c i arg1 harg1 arg2 harg2 arg3 harg3 arg4 harg4 arg5 harg5 arg6 harg6 arg7 harg7 hc0 hc1 hc2 x0 x1 xo4 xo5)]
  unfold kernelRun0_C
  dsimp only
  sl_unfold_words
  rw [View.canon_cons_unit_zero (S := S1x4096) zero2]
  simp only [View.readCov_unit_zero (S := S64x1) _ zero2, View.readAt_eq_ld, harg1.read_unread, harg2.read_unread, harg5.read_unread, harg6.read_unread,
    View.ld_unit_zero (S := S2048x2048) zero2, View.ld_unit_zero (S := S64x2048) zero2, View.ld_unit_zero (S := S64x1) zero2, shapeCast_self]

/-- The last grid point: the weights. -/
theorem pointC_3 (hc0 : ¬cond0_0 i) (hc1 : cond0_1 i) (hc2 : cond0_2 i) :
    out0_C_3 (F := Ideal) c i arg1 harg1 arg2 harg2 arg3 harg3 arg4 harg4 arg5 harg5 arg6 harg6 arg7 harg7 hc0 hc1 hc2 x0 x1 xo4 xo5
      = k0_pay17 (k0_pay11 x1 x0) (k0_pay13 x1 x0) (k0_pay14 x1 x0) (iota .tc S1x4096 32 [1] iota_S1x4096_d1_w32) 1#32 := by
  unfold out0_C_3
  rw [View.read_writes_eq_canon _ _ _ (cover0_C_3 c i arg1 harg1 arg2 harg2 arg3 harg3 arg4 harg4 arg5 harg5 arg6 harg6 arg7 harg7 hc0 hc1 hc2 x0 x1 xo4 xo5)]
  unfold kernelRun0_C
  dsimp only
  sl_unfold_words
  rw [View.canon_cons_unit_zero (S := S1x4096) zero2]
  simp only [View.readCov_unit_zero (S := S64x1) _ zero2, View.readAt_eq_ld, harg1.read_unread, harg2.read_unread, harg5.read_unread, harg6.read_unread,
    View.ld_unit_zero (S := S2048x2048) zero2, View.ld_unit_zero (S := S64x2048) zero2, View.ld_unit_zero (S := S64x1) zero2, shapeCast_self]

/-- The last grid point: the counts. -/
theorem pointC_4 (hc0 : ¬cond0_0 i) (hc1 : cond0_1 i) (hc2 : cond0_2 i) :
    out0_C_4 (F := Ideal) c i arg1 harg1 arg2 harg2 arg3 harg3 arg4 harg4 arg5 harg5 arg6 harg6 arg7 harg7 hc0 hc1 hc2 x0 x1 xo4 xo5
      = k0_pay20 (k0_pay5 x1 x0) (k0_pay9 x1 x0) xo4 := by
  unfold out0_C_4
  rw [View.read_writes_eq_canon _ _ _ (cover0_C_4 c i arg1 harg1 arg2 harg2 arg3 harg3 arg4 harg4 arg5 harg5 arg6 harg6 arg7 harg7 hc0 hc1 hc2 x0 x1 xo4 xo5)]
  unfold kernelRun0_C
  dsimp only
  sl_unfold_words
  rw [View.canon_cons_unit_zero (S := S64x1) zero2]
  simp only [View.readCov_unit_zero (S := S64x1) _ zero2, View.readAt_eq_ld, harg1.read_unread, harg2.read_unread, harg5.read_unread, harg6.read_unread,
    View.ld_unit_zero (S := S2048x2048) zero2, View.ld_unit_zero (S := S64x2048) zero2, View.ld_unit_zero (S := S64x1) zero2, shapeCast_self]

/-- The last grid point: the sums of probabilities. -/
theorem pointC_5 (hc0 : ¬cond0_0 i) (hc1 : cond0_1 i) (hc2 : cond0_2 i) :
    out0_C_5 (F := Ideal) c i arg1 harg1 arg2 harg2 arg3 harg3 arg4 harg4 arg5 harg5 arg6 harg6 arg7 harg7 hc0 hc1 hc2 x0 x1 xo4 xo5
      = k0_pay21 (k0_pay12 x1 x0) xo5 := by
  unfold out0_C_5
  rw [View.read_writes_eq_canon _ _ _ (cover0_C_5 c i arg1 harg1 arg2 harg2 arg3 harg3 arg4 harg4 arg5 harg5 arg6 harg6 arg7 harg7 hc0 hc1 hc2 x0 x1 xo4 xo5)]
  unfold kernelRun0_C
  dsimp only
  sl_unfold_words
  rw [View.canon_cons_unit_zero (S := S64x1) zero2]
  simp only [View.readCov_unit_zero (S := S64x1) _ zero2, View.readAt_eq_ld, harg1.read_unread, harg2.read_unread, harg5.read_unread, harg6.read_unread,
    View.ld_unit_zero (S := S2048x2048) zero2, View.ld_unit_zero (S := S64x2048) zero2, View.ld_unit_zero (S := S64x1) zero2, shapeCast_self]

/-- The last grid point: the balance term. -/
theorem pointC_6 (hc0 : ¬cond0_0 i) (hc1 : cond0_1 i) (hc2 : cond0_2 i) :
    out0_C_6 (F := Ideal) c i arg1 harg1 arg2 harg2 arg3 harg3 arg4 harg4 arg5 harg5 arg6 harg6 arg7 harg7 hc0 hc1 hc2 x0 x1 xo4 xo5
      = k0_pay1 (k0_pay20 (k0_pay5 x1 x0) (k0_pay9 x1 x0) xo4) (k0_pay21 (k0_pay12 x1 x0) xo5) := by
  unfold out0_C_6
  rw [View.read_writes_eq_canon _ _ _ (cover0_C_6 c i arg1 harg1 arg2 harg2 arg3 harg3 arg4 harg4 arg5 harg5 arg6 harg6 arg7 harg7 hc0 hc1 hc2 x0 x1 xo4 xo5)]
  unfold kernelRun0_C
  dsimp only
  sl_unfold_words
  rw [View.canon_cons_unit_zero (S := S1x1) zero2]
  simp only [View.readCov_unit_zero (S := S64x1) _ zero2, View.readAt_eq_ld, harg1.read_unread, harg2.read_unread, harg5.read_unread, harg6.read_unread,
    View.ld_unit_zero (S := S2048x2048) zero2, View.ld_unit_zero (S := S64x2048) zero2, View.ld_unit_zero (S := S64x1) zero2, shapeCast_self]

end

end Cert.Proof

end
-- ==== Proof.Arrays.lean ====
/-
  What the kernel's output arrays hold at the end, in terms of the tokens' rows of logits.
-/
module

public import proofs.«01_k».proof.Proof.Tokens
public import proofs.«01_k».proof.Proof.Points
public import Idealize.ShloMosaic.Lib.Pipeline.ValueKit

@[expose] public section

set_option maxRecDepth 16384

noncomputable section

namespace Cert.Proof

open Cert.KernelIdeal Cert.KernelIdeal.Gen Idealize.ShloMosaic Idealize.ShloMosaic.TcCoe Idealize.ShloMosaic.Tactic Idealize.SL.Sem

variable (m : (ℓ : Loc nD τ sig) → Buf (Elt Ideal) ℓ) (c : Dev nD)

/-- The tokens the kernel is given. -/
abbrev argX : TokenArray := m ((c.tc : Thread nD τ).loc main_arg0)

/-- The weight matrix the kernel is given. -/
abbrev argW : WeightArray := m ((c.tc : Thread nD τ).loc main_arg1)

/-- The blocks' places, axis by axis. -/
theorem places : ∀ t : Fin cfg0.N,
    win0_0.index t = ![t.val, 0] ∧ win0_1.index t = ![0, 0] ∧ win0_2.index t = ![0, t.val] ∧ win0_3.index t = ![0, t.val] :=
  (by decide +kernel : ∀ t : Fin grid0.N,
    win0_0.index t = ![t.val, 0] ∧ win0_1.index t = ![0, 0] ∧ win0_2.index t = ![0, t.val] ∧ win0_3.index t = ![0, t.val])

/-- There are eight grid points. -/
theorem point_lt (t : Fin cfg0.N) : t.val < 8 := lt_of_lt_of_eq t.isLt N_0

/-- The token at place `r` of point `t`'s block. -/
def tokenAt (t : Fin cfg0.N) (r : Fin 2048) : Fin 16384 := ⟨t.val * 2048 + r.val, by have := point_lt t; omega⟩

/-- The region finds the tokens flattened. -/
theorem entry_x : V m c main_v0 = shapeCast S16384x2048 (argX m c) shapeCasts_S4x4096x2048_S16384x2048 := by
  unfold V V0
  simp only [List.flatten_cons, List.flatten_nil, List.append_nil]
  unfold hostOps0
  after_results
  rfl

/-- The token block of a grid point, read at an entry. -/
theorem block_x (t : Fin cfg0.N) (r k : Fin 2048) :
    iblk m c 0 t (ix2 r k) = argX m c (ix3 (⟨(tokenAt t r).val / 4096, by omega⟩ : Fin 4) (⟨(tokenAt t r).val % 4096, by omega⟩ : Fin 4096) k) := by
  unfold tokenAt
  have := point_lt t
  unfold iblk
  blk_simp [places t]
  show V m c main_v0 _ = _
  rw [entry_x]
  pointwise
  blk_ext [places t]

/-- The weight block of a grid point is the whole matrix. -/
theorem block_w (t : Fin cfg0.N) (e : Fin 64) (k : Fin 2048) : iblk m c 1 t (ix2 e k) = argW m c (ix2 e k) := by
  blk_ext [iblk, V, places t]

/-- A row of a block is the row of its token. -/
theorem block_row (t : Fin cfg0.N) (r : Fin 2048) :
    blockRow (iblk m c 1 t) (iblk m c 0 t) r = tokenRow (argX m c) (argW m c) (tokenAt t r) := by
  funext e
  unfold blockRow tokenRow
  exact Finset.sum_congr rfl fun k _ => by rw [block_x, block_w]

/-! ## What a point leaves -/

/-- A point is the first, a middle one, or the last. -/
theorem point_cases (t : Fin cfg0.N) :
    (t.val % 8 = 0 ∧ ¬1 ≤ t.val ∧ ¬t.val % 8 = 7) ∨ (¬t.val % 8 = 0 ∧ 1 ≤ t.val ∧ ¬t.val % 8 = 7)
      ∨ (¬t.val % 8 = 0 ∧ 1 ≤ t.val ∧ t.val % 8 = 7) := by
  have := point_lt t
  omega

/-- The indices every point stores. -/
theorem outs_indices (t : Fin cfg0.N) :
    (outsAt0 m c t.val t.isLt).1
      = k0_pay16 (k0_pay4 (iblk m c 1 t) (iblk m c 0 t)) (k0_pay8 (iblk m c 1 t) (iblk m c 0 t))
          (iota .tc S1x4096 32 [1] iota_S1x4096_d1_w32) 1#32 := by
  rcases point_cases t with ⟨h0, h1, h2⟩ | ⟨h0, h1, h2⟩ | ⟨h0, h1, h2⟩
  · rw [outsAt0_A m c t h0 h1 h2]; dsimp only; rw [pointA_2]
  · rw [outsAt0_B m c t h0 h1 h2]; dsimp only; rw [pointB_2]
  · rw [outsAt0_C m c t h0 h1 h2]; dsimp only; rw [pointC_2]

/-- The weights every point stores. -/
theorem outs_weights (t : Fin cfg0.N) :
    (outsAt0 m c t.val t.isLt).2.1
      = k0_pay17 (k0_pay11 (iblk m c 1 t) (iblk m c 0 t)) (k0_pay13 (iblk m c 1 t) (iblk m c 0 t))
          (k0_pay14 (iblk m c 1 t) (iblk m c 0 t)) (iota .tc S1x4096 32 [1] iota_S1x4096_d1_w32) 1#32 := by
  rcases point_cases t with ⟨h0, h1, h2⟩ | ⟨h0, h1, h2⟩ | ⟨h0, h1, h2⟩
  · rw [outsAt0_A m c t h0 h1 h2]; dsimp only; rw [pointA_3]
  · rw [outsAt0_B m c t h0 h1 h2]; dsimp only; rw [pointB_3]
  · rw [outsAt0_C m c t h0 h1 h2]; dsimp only; rw [pointC_3]

/-- The counts of point `t`'s block. -/
def blockCount (t : Fin cfg0.N) (e : Fin 64) : EReal := ∑ r : Fin 2048, hits (tokenRow (argX m c) (argW m c) (tokenAt t r)) e

/-- The sums of probabilities over point `t`'s block. -/
def blockMass (t : Fin cfg0.N) (e : Fin 64) : EReal := ∑ r : Fin 2048, soft (tokenRow (argX m c) (argW m c) (tokenAt t r)) e

/-- The first point's counts. -/
theorem counts_first (t : Fin cfg0.N) (h : t.val = 0) (e : Fin 64) :
    (outsAt0 m c t.val t.isLt).2.2.1 (ix2 e 0) = blockCount m c t e := by
  have h0 : t.val % 8 = 0 := by omega
  rw [outsAt0_A m c t h0 (by omega) (by omega)]
  dsimp only
  rw [pointA_4, pay18_at]
  exact Finset.sum_congr rfl fun r _ => by rw [block_row]

/-- A later point's counts: those of the point before, and its own. -/
theorem counts_step (t : Fin cfg0.N) (h : 1 ≤ t.val) (e : Fin 64) :
    (outsAt0 m c t.val t.isLt).2.2.1 (ix2 e 0)
      = (outsAt0 m c (t.val - 1) (Nat.lt_of_le_of_lt (Nat.sub_le _ _) t.isLt)).2.2.1 (ix2 e 0) + blockCount m c t e := by
  have hlt := point_lt t
  have h0 : ¬t.val % 8 = 0 := by omega
  have hs : ∀ v : Vec Ideal S64x1 .f32,
      k0_pay20 (F := Ideal) (k0_pay5 (iblk m c 1 t) (iblk m c 0 t)) (k0_pay9 (iblk m c 1 t) (iblk m c 0 t)) v (ix2 e 0)
        = v (ix2 e 0) + blockCount m c t e := fun v => by
    rw [pay20_at]
    exact congrArg _ (Finset.sum_congr rfl fun r _ => by rw [block_row])
  by_cases h2 : t.val % 8 = 7
  · rw [outsAt0_C m c t h0 h h2]
    dsimp only; rw [pointC_4]; exact hs _
  · rw [outsAt0_B m c t h0 h h2]
    dsimp only; rw [pointB_4]; exact hs _

section

variable (hX : ∀ T, Real' (tokenRow (argX m c) (argW m c) T))

include hX

/-- The rows of a block are real when the tokens' are. -/
theorem block_real (t : Fin cfg0.N) (r : Fin 2048) : Real' (blockRow (iblk m c 1 t) (iblk m c 0 t) r) := by
  rw [block_row]; exact hX _

/-- The first point's sums of probabilities. -/
theorem masses_first (t : Fin cfg0.N) (h : t.val = 0) (e : Fin 64) :
    (outsAt0 m c t.val t.isLt).2.2.2.1 (ix2 e 0) = blockMass m c t e := by
  have h0 : t.val % 8 = 0 := by omega
  rw [outsAt0_A m c t h0 (by omega) (by omega)]
  dsimp only
  rw [pointA_5, pay19_at (block_real m c hX t)]
  exact Finset.sum_congr rfl fun r _ => by rw [block_row]

/-- A later point's sums of probabilities: those of the point before, and its own. -/
theorem masses_step (t : Fin cfg0.N) (h : 1 ≤ t.val) (e : Fin 64) :
    (outsAt0 m c t.val t.isLt).2.2.2.1 (ix2 e 0)
      = (outsAt0 m c (t.val - 1) (Nat.lt_of_le_of_lt (Nat.sub_le _ _) t.isLt)).2.2.2.1 (ix2 e 0) + blockMass m c t e := by
  have hlt := point_lt t
  have h0 : ¬t.val % 8 = 0 := by omega
  have hs : ∀ v : Vec Ideal S64x1 .f32,
      k0_pay21 (F := Ideal) (k0_pay12 (iblk m c 1 t) (iblk m c 0 t)) v (ix2 e 0)
        = v (ix2 e 0) + blockMass m c t e := fun v => by
    rw [pay21_at (block_real m c hX t)]
    exact congrArg _ (Finset.sum_congr rfl fun r _ => by rw [block_row])
  by_cases h2 : t.val % 8 = 7
  · rw [outsAt0_C m c t h0 h h2]
    dsimp only; rw [pointC_5]; exact hs _
  · rw [outsAt0_B m c t h0 h h2]
    dsimp only; rw [pointB_5]; exact hs _

end

/-! ## The totals -/

/-- A sum over the points' blocks is a sum over the tokens. -/
theorem sum_tokens (g : Fin 16384 → EReal) : ∑ t : Fin cfg0.N, ∑ r : Fin 2048, g (tokenAt t r) = ∑ T : Fin 16384, g T := by
  have h := Fin.sum_mul_add_fin 8 (n := 2048) g
  rw [← h]
  rfl

/-- The counts the last point leaves. -/
theorem counts_last (e : Fin 64) :
    (outsAt0 m c t0_7.val t0_7.isLt).2.2.1 (ix2 e 0) = countOf (argX m c) (argW m c) e := by
  have h := Pipeline.eq_sum_fin_of_reset_step_apply_last (N := cfg0.N) (fun n h (e : Fin 64) => (outsAt0 m c n h).2.2.1 (ix2 e 0)) 8 (fun _ => 0)
    (fun t e => blockCount m c t e)
    (fun t h e => by
      have := point_lt t
      rw [zero_add]; exact counts_first m c t (by omega) e)
    (fun t h e => counts_step m c t (by omega) e)
    (le_of_eq N_0) t0_7 rfl e
  refine h.trans ?_
  rw [zero_add]
  exact sum_tokens fun T => hits (tokenRow (argX m c) (argW m c) T) e

/-- The sums of probabilities the last point leaves. -/
theorem masses_last (hX : ∀ T, Real' (tokenRow (argX m c) (argW m c) T)) (e : Fin 64) :
    (outsAt0 m c t0_7.val t0_7.isLt).2.2.2.1 (ix2 e 0) = massOf (argX m c) (argW m c) e := by
  have h := Pipeline.eq_sum_fin_of_reset_step_apply_last (N := cfg0.N) (fun n h (e : Fin 64) => (outsAt0 m c n h).2.2.2.1 (ix2 e 0)) 8 (fun _ => 0)
    (fun t e => blockMass m c t e)
    (fun t h e => by
      have := point_lt t
      rw [zero_add]; exact masses_first m c hX t (by omega) e)
    (fun t h e => masses_step m c hX t (by omega) e)
    (le_of_eq N_0) t0_7 rfl e
  refine h.trans ?_
  rw [zero_add]
  exact sum_tokens fun T => soft (tokenRow (argX m c) (argW m c) T) e

/-- The balance term the last point stores: that of the counts and sums it leaves. -/
theorem outs_balance :
    (outsAt0 m c t0_7.val t0_7.isLt).2.2.2.2
      = k0_pay1 (F := Ideal) (outsAt0 m c t0_7.val t0_7.isLt).2.2.1 (outsAt0 m c t0_7.val t0_7.isLt).2.2.2.1 := by
  have h0 : ¬t0_7.val % 8 = 0 := by decide
  have h1 : 1 ≤ t0_7.val := by decide
  have h2 : t0_7.val % 8 = 7 := by decide
  rw [outsAt0_C m c t0_7 h0 h1 h2]
  dsimp only
  rw [pointC_4, pointC_5, pointC_6]

/-! ## The arrays at the end -/

/-- The indices of a point's block, entry by entry. -/
theorem outs_indices_at (t : Fin cfg0.N) (y : S1x4096.Idx) :
    (outsAt0 m c t.val t.isLt).1 y
      = BitVec.ofNat 32 (chosen (tokenRow (argX m c) (argW m c) (tokenAt t (tokOf (y 1)))) (sideOf (y 1))).val := by
  rw [outs_indices]
  idx_vars y
  obtain rfl : y0 = 0 := Subsingleton.elim _ _
  rw [← block_row]
  exact pay16_at y1

/-- The weights of a point's block, entry by entry. -/
theorem outs_weights_at (hX : ∀ T, Real' (tokenRow (argX m c) (argW m c) T)) (t : Fin cfg0.N) (y : S1x4096.Idx) :
    (outsAt0 m c t.val t.isLt).2.1 y
      = weight (tokenRow (argX m c) (argW m c) (tokenAt t (tokOf (y 1)))) (sideOf (y 1)) := by
  rw [outs_weights]
  idx_vars y
  obtain rfl : y0 = 0 := Subsingleton.elim _ _
  rw [← block_row]
  exact pay17_at y1 (block_real m c hX t _)

/-- The token an entry of the whole interleaved arrays belongs to. -/
def tokenOf (p : Fin 32768) : Fin 16384 := ⟨p.val / 2, by omega⟩

/-- Which of the token's two choices the entry is. -/
def choiceOf (p : Fin 32768) : Fin 2 := ⟨p.val % 2, by omega⟩

/-- The place of an entry of the block of indices in the whole array. -/
theorem place_indices (t : Fin cfg0.N) (y : ((cfg0.win 2).xblock (cfg0.grid.coords t)).Idx) :
    ((((cfg0.win 2).blk t).view.emb y) 1).val = t.val * 4096 + (y 1).val := by
  blk_simp [places t]

/-- The place of an entry of the block of weights in the whole array. -/
theorem place_weights (t : Fin cfg0.N) (y : ((cfg0.win 3).xblock (cfg0.grid.coords t)).Idx) :
    ((((cfg0.win 3).blk t).view.emb y) 1).val = t.val * 4096 + (y 1).val := by
  blk_simp [places t]

/-- The token and the choice at an entry, from its point and its place in the block. -/
theorem entry_block (t : Fin cfg0.N) (p : Fin 32768) (q : Fin 4096) (h : p.val = t.val * 4096 + q.val) :
    tokenOf p = tokenAt t (tokOf q) ∧ choiceOf p = sideOf q := by
  unfold tokenOf tokenAt tokOf choiceOf sideOf
  exact ⟨Fin.ext (by dsimp only; omega), Fin.ext (by dsimp only; omega)⟩

/-- The array of indices. -/
theorem array_indices :
    (dats m 0 c).arrAt 2 cfg0.N = fun i : S1x32768.Idx =>
      BitVec.ofNat 32 (chosen (tokenRow (argX m c) (argW m c) (tokenOf (i 1))) (choiceOf (i 1))).val := by
  refine (dats m 0 c).arrAt_eq_of_covers 2 _ (by decide +kernel) fun t hf y => ?_
  have he := entry_block t ((((cfg0.win 2).blk t).view.emb y) 1) (y 1) (place_indices t y)
  rw [after0_2]
  refine (outs_indices_at m c t y).trans ?_
  rw [he.1, he.2]

/-- The array of weights. -/
theorem array_weights (hX : ∀ T, Real' (tokenRow (argX m c) (argW m c) T)) :
    (dats m 0 c).arrAt 3 cfg0.N = fun i : S1x32768.Idx =>
      weight (tokenRow (argX m c) (argW m c) (tokenOf (i 1))) (choiceOf (i 1)) := by
  refine (dats m 0 c).arrAt_eq_of_covers 3 _ (by decide +kernel) fun t hf y => ?_
  have he := entry_block t ((((cfg0.win 3).blk t).view.emb y) 1) (y 1) (place_weights t y)
  rw [after0_3]
  refine (outs_weights_at m c hX t y).trans ?_
  rw [he.1, he.2]

/-- The array of the balance term. -/
theorem array_balance (hX : ∀ T, Real' (tokenRow (argX m c) (argW m c) T)) :
    (dats m 0 c).arrAt 6 cfg0.N = fun _ : S1x1.Idx => balance (countOf (argX m c) (argW m c)) (massOf (argX m c) (argW m c)) := by
  refine (dats m 0 c).arrAt_eq_of_after_last 6 t0_7 (by decide +kernel) _ fun j => ?_
  blk_simp
  rw [after0_6, outs_balance]
  have hj : ∀ y : S1x1.Idx, y = ix2 0 0 := fun y => by
    idx_vars y
    rw [show y0 = 0 from Subsingleton.elim _ _, show y1 = 0 from Subsingleton.elim _ _]
  refine (congrArg _ (hj j)).trans ?_
  rw [pay1_at]
  exact congrArg₂ balance (funext fun e => counts_last m c e) (funext fun e => masses_last m c hX e)

end Cert.Proof

end
-- ==== Proof.KernelRun.lean ====
/-
  The kernel's run: it ends with the three results the tokens' rows determine.
-/
module

public import proofs.«01_k».proof.Proof.Arrays

@[expose] public section

set_option maxRecDepth 16384

noncomputable section

namespace Cert.Proof

open Cert.KernelIdeal Cert.KernelIdeal.Gen Idealize.ShloMosaic Idealize.ShloMosaic.TcCoe Idealize.ShloMosaic.Tactic Idealize.SL.Sem

variable (m : (ℓ : Loc nD τ sig) → Buf (Elt Ideal) ℓ) (c : Dev nD)

/-- Different windows stand for different arrays. -/
theorem arrays_differ : Function.Injective (Pipeline.arrRef spec0) := by decide

/-- The first result is the array of indices, laid out by token. -/
theorem tail_indices :
    Pipeline.afterTail₀ cfgs (dats m) 0 (V0 m) [hostOps1] c main_v2
      = shapeCast S16384x2 ((dats m 0 c).arrAt 2 cfg0.N : Vec Ideal S1x32768 .i32) shapeCasts_S1x32768_S16384x2 := by
  unfold Pipeline.afterTail₀
  simp only [List.flatten_cons, List.flatten_nil, List.append_nil]
  unfold hostOps1
  after_results
  exact congrArg (fun v => shapeCast S16384x2 v shapeCasts_S1x32768_S16384x2)
    (Pipeline.withArrays_arr spec0 arrays_differ c (V0 m c) (fun w => (dats m 0 c).arrAt w cfg0.N) 2)

/-- The second result is the array of weights, laid out by token. -/
theorem tail_weights :
    Pipeline.afterTail₀ cfgs (dats m) 0 (V0 m) [hostOps1] c main_v3
      = shapeCast S16384x2 ((dats m 0 c).arrAt 3 cfg0.N : Vec Ideal S1x32768 .f32) shapeCasts_S1x32768_S16384x2 := by
  unfold Pipeline.afterTail₀
  simp only [List.flatten_cons, List.flatten_nil, List.append_nil]
  unfold hostOps1
  after_results
  exact congrArg (fun v => shapeCast S16384x2 v shapeCasts_S1x32768_S16384x2)
    (Pipeline.withArrays_arr spec0 arrays_differ c (V0 m c) (fun w => (dats m 0 c).arrAt w cfg0.N) 3)

/-- The third result is the balance term's one entry. -/
theorem tail_balance :
    Pipeline.afterTail₀ cfgs (dats m) 0 (V0 m) [hostOps1] c main_v4
      = shapeCast S_ ((dats m 0 c).arrAt 6 cfg0.N : Vec Ideal S1x1 .f32) shapeCasts_S1x1_S_ := by
  unfold Pipeline.afterTail₀
  simp only [List.flatten_cons, List.flatten_nil, List.append_nil]
  unfold hostOps1
  after_results
  exact congrArg (fun v => shapeCast S_ v shapeCasts_S1x1_S_)
    (Pipeline.withArrays_arr spec0 arrays_differ c (V0 m c) (fun w => (dats m 0 c).arrAt w cfg0.N) 6)

/-- Laid out by token, the interleaved entries of a token are its two. -/
theorem by_token {e : EltTy} (v : Vec Ideal S1x32768 e) (T : Fin 16384) (s : Fin 2) :
    shapeCast S16384x2 v shapeCasts_S1x32768_S16384x2 (ix2 T s) = v (ix2 0 ⟨T.val * 2 + s.val, by omega⟩) := by
  pointwise

/-- An interleaved entry's token and choice. -/
theorem entry_split (T : Fin 16384) (s : Fin 2) :
    tokenOf ⟨T.val * 2 + s.val, by omega⟩ = T ∧ choiceOf ⟨T.val * 2 + s.val, by omega⟩ = s := by
  unfold tokenOf choiceOf
  exact ⟨Fin.ext (by dsimp only; omega), Fin.ext (by dsimp only; omega)⟩

/-- The first result holds the chosen experts. -/
theorem value_indices :
    Pipeline.afterTail₀ cfgs (dats m) 0 (V0 m) [hostOps1] c main_v2 = resultIndices (argX m c) (argW m c) := by
  rw [tail_indices, array_indices]
  funext j
  idx_vars j
  refine (by_token (e := .i32) _ j0 j1).trans ?_
  have h := entry_split j0 j1
  show BitVec.ofNat 32 (chosen (tokenRow _ _ (tokenOf ⟨j0.val * 2 + j1.val, _⟩)) (choiceOf ⟨j0.val * 2 + j1.val, _⟩)).val = _
  rw [h.1, h.2]
  rfl

variable (hX : ∀ T, Real' (tokenRow (argX m c) (argW m c) T))

include hX

/-- The second result holds their weights. -/
theorem value_weights :
    Pipeline.afterTail₀ cfgs (dats m) 0 (V0 m) [hostOps1] c main_v3 = resultWeights (argX m c) (argW m c) := by
  rw [tail_weights, array_weights m c hX]
  funext j
  idx_vars j
  refine (by_token (e := .f32) _ j0 j1).trans ?_
  have h := entry_split j0 j1
  show weight (tokenRow _ _ (tokenOf ⟨j0.val * 2 + j1.val, _⟩)) (choiceOf ⟨j0.val * 2 + j1.val, _⟩) = _
  rw [h.1, h.2]
  rfl

/-- The third result is the balance term. -/
theorem value_balance :
    Pipeline.afterTail₀ cfgs (dats m) 0 (V0 m) [hostOps1] c main_v4 = resultBalance (argX m c) (argW m c) := by
  rw [tail_balance, array_balance m c hX]
  rfl

omit hX

/-- The kernel runs to the end with the three results, its arguments unchanged. -/
theorem run_kernel (g : Dev nD → PrngReg) (hX : ∀ c T, Real' (tokenRow (argX m c) (argW m c) T)) :
    θ_run (defs (F := Ideal)) (onTc (τ := τ) (main (F := Ideal))) ⟨m, fun _ => 0, g⟩ (fun r => ∀ c : Dev nD,
      r.2.mem ((c.tc : Thread nD τ).loc main_v2) = resultIndices (argX m c) (argW m c)
      ∧ r.2.mem ((c.tc : Thread nD τ).loc main_v3) = resultWeights (argX m c) (argW m c)
      ∧ r.2.mem ((c.tc : Thread nD τ).loc main_v4) = resultBalance (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun r h c => ⟨
      ((h.1 c).2 main_v2 (Pipeline.mem_restRefs_of main_v2 (by decide) (by decide))).trans (value_indices m c),
      ((h.1 c).2 main_v3 (Pipeline.mem_restRefs_of main_v3 (by decide) (by decide))).trans (value_weights m c (hX c)),
      ((h.1 c).2 main_v4 (Pipeline.mem_restRefs_of main_v4 (by decide) (by decide))).trans (value_balance m c (hX c)),
      (h.2 c).1, (h.2 c).2⟩)
    (θ_run_and (run_main m g) (unchanged m g))

end Cert.Proof

end
-- ==== Proof.RefRow.lean ====
/-
  The reference's softmax, entry by entry, in terms of the tokens' rows of logits.
-/
module

public import proofs.«01_k».proof.Proof.Tokens
public import proofs.«01_k».proof.Proof.Gen.ReferenceIdeal.Read
public import Idealize.ShloMosaic.Lib.Pointwise

@[expose] public section

set_option maxRecDepth 16384

noncomputable section

namespace Cert.Proof

open Idealize.ShloMosaic Cert.ReferenceIdeal Cert.ReferenceIdeal.Gen Cert.ReferenceIdeal.Read

variable (X : TokenArray) (W : WeightArray)

/-- The logits. -/
theorem ref_logits (T : Fin 16384) (e : Fin 64) : val_main_v2 (F := Ideal) X W (ix2 T e) = tokenRow X W T e := by
  pointwise [val_main_v2, val_main_v0, val_main_v1]
  unfold tokenRow
  exact Finset.sum_congr rfl fun k _ => mul_comm _ _

/-- The greatest logit. -/
theorem ref_top (T : Fin 16384) : val_main_v5 (F := Ideal) X W (ix1 T) = top (tokenRow X W T) := by
  pointwise [val_main_v5, val_main_v4, val_main_v3, val_main_cst, val_main_cst_0]
  simp only [negInf, ref_logits]
  exact max_eq_right bot_le

/-- The exponentials. -/
theorem ref_expo (T : Fin 16384) (e : Fin 64) : val_main_v9 (F := Ideal) X W (ix2 T e) = expo (tokenRow X W T) e := by
  pointwise [val_main_v9, val_main_v8, val_main_v7, val_main_v6]
  rw [ref_logits, ref_top]
  rfl

/-- The softmax. -/
theorem ref_soft (T : Fin 16384) (e : Fin 64) : val_main_v13 (F := Ideal) X W (ix2 T e) = soft (tokenRow X W T) e := by
  pointwise [val_main_v13, val_main_v12, val_main_v11, val_main_v10, val_main_cst_1]
  simp only [ref_expo]
  rfl

end Cert.Proof

end
-- ==== Proof.RefTop.lean ====
/-
  The reference's first two results, entry by entry, in terms of the tokens' rows of logits.
-/
module

public import proofs.«01_k».proof.Proof.RefRow
public import Idealize.ShloMosaic.Lib.Pointwise

@[expose] public section

set_option maxRecDepth 16384

noncomputable section

namespace Cert.Proof

open Idealize.ShloMosaic Cert.ReferenceIdeal Cert.ReferenceIdeal.Gen Cert.ReferenceIdeal.Read

variable (X : TokenArray) (W : WeightArray)

variable {X W}

/-- The last axis of the array of probabilities. -/
abbrev lastAxis : Fin S16384x64.rank := ⟨1, by decide⟩

/-- Moving an index along the last axis. -/
theorem along_last (T : Fin 16384) (e k : Fin 64) : Shape.Idx.along (s := S16384x64) (ix2 T e) lastAxis k = ix2 T k := by
  funext a
  unfold Shape.Idx.along
  match a with
  | ⟨0, _⟩ => rfl
  | ⟨1, _⟩ => rfl

/-- The leading two columns of an array, read at an index. -/
theorem leading_columns {α : Type} (y : S16384x64.Idx → α) (T : Fin 16384) (s : Fin 2) :
    extractStridedSlice S16384x2 (fun _ => 0) y sliceFits_S16384x64_S16384x2 (ix2 T s) = y (ix2 T (s.castLE (by decide : 2 ≤ 64))) := by
  unfold extractStridedSlice
  refine congrArg y ?_
  funext a
  match a with
  | ⟨0, _⟩ => exact Fin.ext (Nat.zero_add _)
  | ⟨1, _⟩ => exact Fin.ext (Nat.zero_add _)

/-- The positions along the last axis, read at an index. -/
theorem position_last (T : Fin 16384) (e : Fin 64) : iotaInDim S16384x64 32 lastAxis (ix2 T e) = BitVec.ofNat 32 e.val := rfl

/-- Sorting the last axis from the greatest down, read at an index of the values. -/
theorem sort_values (x : S16384x64.Idx → EReal) (y : S16384x64.Idx → BitVec 32) (f : Row) (T : Fin 16384) (hx : ∀ e, x (ix2 T e) = f e) (e : Fin 64) :
    (Host.sort2 S16384x64 1 (fun l r => FloatOps.cmpfTotal (F := Ideal) (φ := .f32) .gt l.1 r.1) x y).1 (ix2 T e) = x (ix2 T (sortedFrom (keyGt f) e))
    ∧ (Host.sort2 S16384x64 1 (fun l r => FloatOps.cmpfTotal (F := Ideal) (φ := .f32) .gt l.1 r.1) x y).2 (ix2 T e) = y (ix2 T (sortedFrom (keyGt f) e)) := by
  have hc : (fun k k' : Fin 64 => FloatOps.cmpfTotal (F := Ideal) (φ := .f32) .gt
        (x (Shape.Idx.along (s := S16384x64) (ix2 T e) lastAxis k)) (x (Shape.Idx.along (s := S16384x64) (ix2 T e) lastAxis k')) == 1#1)
      = keyGt f := by
    funext k k'
    rw [along_last, along_last, hx, hx]
    show (BitVec.ofBool (decide (f k' < f k)) == 1#1) = decide (f k' < f k)
    cases decide (f k' < f k) <;> rfl
  unfold Host.sort2
  rw [dif_pos (by decide)]
  refine ⟨?_, ?_⟩
  · rw [← along_last T e (sortedFrom (keyGt f) e), ← hc]; rfl
  · rw [← along_last T e (sortedFrom (keyGt f) e), ← hc]; rfl

/-- The two greatest along the last axis, and where they stand, from the row of entries they are taken from. -/
theorem two_greatest (x : (⟨S16384x64, .f32⟩ : BufTy).Contents (Elt Ideal)) (f : Row) (T : Fin 16384) (hx : ∀ e, x (ix2 T e) = f e) (s : Fin 2) :
    (Host.topK (s := S16384x64) S16384x2 1 (FloatOps.cmpfTotal (F := Ideal) (φ := .f32) .gt) x sliceFits_S16384x64_S16384x2).1 (ix2 T s)
        = f (sortedFrom (keyGt f) (s.castLE (by decide : 2 ≤ 64)))
    ∧ (Host.topK (s := S16384x64) S16384x2 1 (FloatOps.cmpfTotal (F := Ideal) (φ := .f32) .gt) x sliceFits_S16384x64_S16384x2).2 (ix2 T s)
        = BitVec.ofNat 32 (sortedFrom (keyGt f) (s.castLE (by decide : 2 ≤ 64))).val := by
  unfold Host.topK
  dsimp only
  rw [leading_columns, leading_columns]
  refine ⟨(sort_values x _ f T hx _).1.trans (hx _), (sort_values x _ f T hx _).2.trans ?_⟩
  rw [dif_pos (by decide)]
  exact position_last T _

/-! ## The first two results -/

variable (X W)

/-- The indices, of a token whose logits are real. -/
theorem ref_indices (T : Fin 16384) (hT : Real' (tokenRow X W T)) (s : Fin 2) :
    val_main_indices (F := Ideal) X W (ix2 T s) = BitVec.ofNat 32 (chosen (tokenRow X W T) s).val := by
  unfold val_main_indices
  rw [(two_greatest _ _ T (ref_soft X W T) s).2, sorted_soft hT s]
  rfl

/-- The two greatest probabilities, of a token whose logits are real. -/
theorem ref_values (T : Fin 16384) (hT : Real' (tokenRow X W T)) (s : Fin 2) :
    val_main_values (F := Ideal) X W (ix2 T s) = soft (tokenRow X W T) (chosen (tokenRow X W T) s) := by
  unfold val_main_values
  rw [(two_greatest _ _ T (ref_soft X W T) s).1, sorted_soft hT s]
  rfl

/-- The weights, of a token whose logits are real. -/
theorem ref_weights (T : Fin 16384) (hT : Real' (tokenRow X W T)) (s : Fin 2) :
    val_main_v19 (F := Ideal) X W (ix2 T s) = weight (tokenRow X W T) s := by
  pointwise [val_main_v19, val_main_v18, val_main_v17, val_main_v16, val_main_v15, val_main_v14, val_main_cst_2, val_main_cst_3]
  simp only [Fin.sum_univ_two, ref_values X W T hT]
  rfl

end Cert.Proof

end
-- ==== Proof.RefValue.lean ====
/-
  The reference's three results, as functions of its two arguments, and its run.
-/
module

public import proofs.«01_k».proof.Proof.RefTop
public import Idealize.ShloMosaic.Lib.Pointwise

@[expose] public section

set_option maxRecDepth 16384

noncomputable section

namespace Cert.Proof

open Idealize.ShloMosaic Cert.ReferenceIdeal Cert.ReferenceIdeal.Gen Cert.ReferenceIdeal.Read

variable (X : TokenArray) (W : WeightArray)

/-- A comparison bit read as a number. -/
theorem bit_number (p : Prop) [Decidable p] : (FloatOps.uitofp (F := Ideal) .f32 (BitVec.ofBool (decide p))) = if p then (1 : EReal) else 0 := by
  by_cases h : p
  · rw [if_pos h, decide_eq_true h]
    show (((1#1 : BitVec 1).toNat : ℝ) : EReal) = 1
    norm_num
  · rw [if_neg h, decide_eq_false h]
    show (((0#1 : BitVec 1).toNat : ℝ) : EReal) = 0
    norm_num

variable {X W}

/-- The one-hot encoding of a choice. -/
theorem ref_onehot (T : Fin 16384) (hT : Real' (tokenRow X W T)) (s : Fin 2) (e : Fin 64) :
    val_main_v20 (F := Ideal) X W (ix3 T s e) = if chosen (tokenRow X W T) s = e then (1 : EReal) else 0 := by
  pointwise [val_main_v20, val_main_call0_v4, val_main_call0_v3, val_main_call0_v2, val_main_call0_v1, val_main_call0_v0]
  rw [ref_indices X W T hT s, cmpi_pos]
  rw [bit_number]
  exact if_congr eq_comm rfl rfl

/-- How often a token chooses an expert. -/
theorem ref_hits (T : Fin 16384) (hT : Real' (tokenRow X W T)) (e : Fin 64) :
    val_main_v21 (F := Ideal) X W (ix2 T e) = hits (tokenRow X W T) e := by
  pointwise [val_main_v21, val_main_cst_4]
  simp only [Fin.sum_univ_two, ref_onehot T hT]
  rfl

/-- How often the tokens choose an expert. -/
theorem ref_count (hX : ∀ T, Real' (tokenRow X W T)) (e : Fin 64) : val_main_v22 (F := Ideal) X W (ix1 e) = countOf X W e := by
  pointwise [val_main_v22, val_main_cst_5]
  unfold countOf
  exact Finset.sum_congr rfl fun T _ => ref_hits T (hX T) e

/-- The sum of an expert's probabilities. -/
theorem ref_mass (e : Fin 64) : val_main_v25 (F := Ideal) X W (ix1 e) = massOf X W e := by
  pointwise [val_main_v25, val_main_cst_7]
  unfold massOf
  exact Finset.sum_congr rfl fun T _ => ref_soft X W T e

/-- The product of an expert's two shares. -/
theorem ref_share (hX : ∀ T, Real' (tokenRow X W T)) (e : Fin 64) : val_main_v28 (F := Ideal) X W (ix1 e)
    = Ideal.div (countOf X W e) (Ideal.ofBits .f32 0x47000000#32) * Ideal.div (massOf X W e) (Ideal.ofBits .f32 0x46800000#32) := by
  pointwise [val_main_v28, val_main_v27, val_main_v26, val_main_v24, val_main_v23, val_main_cst_6, val_main_cst_8]
  rw [ref_count hX, ref_mass]

/-- The balance term. -/
theorem ref_balance (hX : ∀ T, Real' (tokenRow X W T)) : val_main_v30 (F := Ideal) X W = resultBalance X W := by
  funext j
  pointwise [val_main_v30, val_main_v29, val_main_cst_9, val_main_cst_10]
  unfold resultBalance balance
  simp only [ref_share hX]

/-- The first result. -/
theorem ref_indices_eq (hX : ∀ T, Real' (tokenRow X W T)) : val_main_indices (F := Ideal) X W = resultIndices X W := by
  funext j
  idx_vars j
  exact ref_indices X W j0 (hX j0) j1

/-- The second result. -/
theorem ref_weights_eq (hX : ∀ T, Real' (tokenRow X W T)) : val_main_v19 (F := Ideal) X W = resultWeights X W := by
  funext j
  idx_vars j
  exact ref_weights X W j0 (hX j0) j1

/-- The tokens a memory of the reference holds. -/
abbrev refX (m : (ℓ : Loc nD τ sig) → Buf (Elt Ideal) ℓ) (c : Dev nD) : TokenArray := m ((c.tc : Thread nD τ).loc main_arg0)

/-- The weight matrix it holds. -/
abbrev refW (m : (ℓ : Loc nD τ sig) → Buf (Elt Ideal) ℓ) (c : Dev nD) : WeightArray := m ((c.tc : Thread nD τ).loc main_arg1)

/-- The reference runs to the end with the three results, its arguments unchanged. -/
theorem run_reference_results (m : (ℓ : Loc nD τ sig) → Buf (Elt Ideal) ℓ) (g : Dev nD → PrngReg)
    (hX : ∀ c T, Real' (tokenRow (refX m c) (refW m c) T)) :
    θ_run (defs (F := Ideal)) (onTc (τ := τ) (main (F := Ideal))) ⟨m, fun _ => 0, g⟩ (fun r => ∀ c : Dev nD,
      r.2.mem ((c.tc : Thread nD τ).loc main_indices) = resultIndices (refX m c) (refW m c)
      ∧ r.2.mem ((c.tc : Thread nD τ).loc main_v19) = resultWeights (refX m c) (refW m c)
      ∧ r.2.mem ((c.tc : Thread nD τ).loc main_v30) = resultBalance (refX m c) (refW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun r h c => ⟨
      ((h c).1.trans (val_main_indices_eq _ _)).trans (ref_indices_eq (hX c)),
      ((h c).2.1.trans (val_main_v19_eq m c)).trans (ref_weights_eq (hX c)),
      ((h c).2.2.1.trans (val_main_v30_eq m c)).trans (ref_balance (hX c)),
      (h c).2.2.2⟩)
    (Cert.ReferenceIdeal.Value.run m g)

end Cert.Proof

end
-- ==== Proof.Finite.lean ====
/-
  What the precondition gives: real entries in both arrays, hence real logits.
-/
module

public import proofs.«01_k».proof.Defs
public import proofs.«01_k».proof.Proof.Arrays

@[expose] public section

set_option maxRecDepth 16384

noncomputable section

namespace Cert.Proof

open Idealize.ShloMosaic

/-- The shape relations the precondition states. -/
theorem finite_facts : Cert.Pre_finite.Facts := ⟨by decide, by decide⟩

/-- A number whose absolute value is below infinity is real. -/
theorem real_of_abs_lt (a : EReal) (h : FloatOps.cmpf (F := Ideal) (φ := .f32) .olt (FloatOps.hostAbsf (F := Ideal) (φ := .f32) a) (FloatOps.ofBits (F := Ideal) .f32 0x7F800000#32) = 1#1) :
    ∃ r : ℝ, a = (r : EReal) := by
  have htop : Ideal.ofBits .f32 0x7F800000#32 = ⊤ := by simp [Ideal.ofBits, Ideal.ieee]
  have h' : (max a (-a) : EReal) < ⊤ := by
    by_contra hn
    have : BitVec.ofBool (decide ((max a (-a) : EReal) < Ideal.ofBits .f32 0x7F800000#32)) = 1#1 := h
    rw [htop, decide_eq_false hn] at this
    exact absurd this (by decide)
  induction a with
  | coe r => exact ⟨r, rfl⟩
  | top => simp at h'
  | bot => simp at h'

/-- Of arrays of real numbers, the logits are real. -/
theorem real_row (X : TokenArray) (W : WeightArray) (hX : ∀ i, ∃ r : ℝ, X i = (r : EReal)) (hW : ∀ i, ∃ r : ℝ, W i = (r : EReal))
    (T : Fin 16384) : Real' (tokenRow X W T) := by
  choose x hx using hX
  choose w hw using hW
  intro e
  refine ⟨∑ k : Fin 2048, w (ix2 e k) * x (ix3 (⟨T.val / 4096, by omega⟩ : Fin 4) (⟨T.val % 4096, by omega⟩ : Fin 4096) k), ?_⟩
  unfold tokenRow
  rw [coe_sum]
  refine Finset.sum_congr rfl fun k _ => ?_
  rw [hw, hx, EReal.coe_mul]

/-- Under the precondition every logit of every token is real. -/
theorem real_of_finite (m : (ℓ : Loc Cert.KernelIdeal.nD Cert.KernelIdeal.τ Cert.KernelIdeal.sig) → Buf (Elt Ideal) ℓ)
    (h : Cert.Pre_KernelIdeal_finite (hPre_finite := finite_facts) m) (c : Dev Cert.KernelIdeal.nD) (T : Fin 16384) :
    Real' (tokenRow (argX m c) (argW m c) T) :=
  real_row _ _ (fun i => real_of_abs_lt _ (congrFun (h c).1 i)) (fun i => real_of_abs_lt _ (congrFun (h c).2 i)) T

end Cert.Proof

end
-- ==== Proof.lean ====
/-
  The certificate: its claims put together from the modules under proof/Proof/.
-/
module

public import proofs.«01_k».proof.Defs
public import proofs.«01_k».proof.Proof.Frames
public import proofs.«01_k».proof.Proof.KernelRun
public import proofs.«01_k».proof.Proof.RefValue
public import proofs.«01_k».proof.Proof.Finite

@[expose] public section

noncomputable section

namespace Cert.Proof

open Idealize.ShloMosaic

/-- On the same real arrays the kernel and the reference end with the same three results. -/
theorem same_results : Cert.algebraic_KernelIdeal_ReferenceIdeal_pre_finite (hKernelIdeal := Cert.KernelIdeal.Gen.facts)
    (hReferenceIdeal := Cert.ReferenceIdeal.Gen.facts) (hPre_finite := finite_facts) := by
  intro m g m' g' hpre hagree
  have hX := real_of_finite m hpre
  have ex : ∀ c, refX m' c = argX m c := fun c => (hagree c).1
  have ew : ∀ c, refW m' c = argW m c := fun c => (hagree c).2
  refine ⟨fun c => resultIndices (argX m c) (argW m c), fun c => resultWeights (argX m c) (argW m c),
    fun c => resultBalance (argX m c) (argW m c), run_kernel m g hX, ?_⟩
  refine (θ_run _ _ _).mono (fun r h c => ?_)
    (run_reference_results m' g' fun c T => by rw [ex c, ew c]; exact hX c T)
  have := h c
  rw [ex c, ew c] at this
  exact this

/-- Everything the certificate claims. -/
theorem claim : Cert.Claim := ⟨Cert.Kernel.Gen.facts, Cert.KernelIdeal.Gen.facts, Cert.ReferenceIdeal.Gen.facts, finite_facts,
  frame_kernel, frame_ideal, fun m g _ => Cert.KernelIdeal.Gen.frame m g, frame_reference, fun m g _ => run_reference m g,
  trivial, same_results⟩

end Cert.Proof

end
